-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_counted [hPre_counted : Cert.Pre_counted.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_counted.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_counted [hPre_counted : Cert.Pre_counted.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_counted.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_counted [hKernel2Ideal : Cert.Kernel2Ideal.Facts] [hPre_counted : Cert.Pre_counted.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_counted m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_counted [hReference2Ideal : Cert.Reference2Ideal.Facts] [hPre_counted : Cert.Pre_counted.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_counted m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_counted [hKernel2Ideal : Cert.Kernel2Ideal.Facts] [hReference2Ideal : Cert.Reference2Ideal.Facts] [hPre_counted : Cert.Pre_counted.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_counted m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v43)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v43) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v250) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_counted : Cert.Pre_counted.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_counted (hKernel2Ideal := hKernel2Ideal) (hPre_counted := hPre_counted)
    ∧ quiescent_Reference2Ideal (hReference2Ideal := hReference2Ideal)
    ∧ quiescent_Reference2Ideal_pre_counted (hReference2Ideal := hReference2Ideal) (hPre_counted := hPre_counted)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_counted (hKernel2Ideal := hKernel2Ideal) (hReference2Ideal := hReference2Ideal) (hPre_counted := hPre_counted)
-- ==== Pre_counted.lean ====
abbrev S8 : Shape := ⟨1, ![8]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S8 : S_.BroadcastsInDim S8 (![] : Fin 0 → Fin S8.rank)

variable [Facts]

def fn {F : FTy → Type} [FloatOps F] (main_arg0 : IVec S8 32) (main_arg1 : FVec F S69632x1024 .f32) (main_arg2 : FVec F S8x1024x3584 .f32) (main_arg3 : FVec F S8x1024x3584 .f32) (main_arg4 : FVec F S8x3584x1024 .f32) : IVec S8 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 32 := constantI S_ 32 65536#32
  let main_v2 : IVec S8 32 := broadcastInDim S8 ![] bcast_S_S8 main_c_0
  let main_v3 : IVec S8 1 := cmpi .sle main_arg0 main_v2
  let main_v4 : IVec S8 1 := andi main_v1 main_v3
  main_v4
-- ==== Pre_finite.lean ====
abbrev S2x16384x16x64 : Shape := ⟨4, ![2, 16384, 16, 64]⟩
abbrev S2x16384x16x32 : Shape := ⟨4, ![2, 16384, 16, 32]⟩
abbrev S16384x2x8 : Shape := ⟨3, ![16384, 2, 8]⟩
abbrev S2x256x16x64 : Shape := ⟨4, ![2, 256, 16, 64]⟩
abbrev S2x256x32 : Shape := ⟨3, ![2, 256, 32]⟩
abbrev S2x16384x32 : Shape := ⟨3, ![2, 16384, 32]⟩
abbrev S_ : Shape := ⟨0, ![]⟩

class Facts : Prop where
  bcast_S_S2x16384x16x64 : S_.BroadcastsInDim S2x16384x16x64 (![] : Fin 0 → Fin S2x16384x16x64.rank)
  bcast_S_S2x16384x16x32 : S_.BroadcastsInDim S2x16384x16x32 (![] : Fin 0 → Fin S2x16384x16x32.rank)
  bcast_S_S16384x2x8 : S_.BroadcastsInDim S16384x2x8 (![] : Fin 0 → Fin S16384x2x8.rank)
  bcast_S_S2x256x16x64 : S_.BroadcastsInDim S2x256x16x64 (![] : Fin 0 → Fin S2x256x16x64.rank)
  bcast_S_S2x256x32 : S_.BroadcastsInDim S2x256x32 (![] : Fin 0 → Fin S2x256x32.rank)
  bcast_S_S2x16384x32 : S_.BroadcastsInDim S2x16384x32 (![] : Fin 0 → Fin S2x16384x32.rank)

variable [Facts]

def fn_part2 {F : FTy → Type} [FloatOps F] (main_arg7 : FVec F S2x16384x16x64 .f32) (main_arg8 : FVec F S2x16384x32 .f32) (main_arg9 : FVec F S2x16384x16x64 .f32) (main_v4 : IVec S2x16384x16x64 1) (main_v9 : IVec S2x16384x16x32 1) (main_v14 : IVec S16384x2x8 1) (main_v19 : IVec S16384x2x8 1) (main_v24 : IVec S2x256x16x64 1) (main_v29 : IVec S2x256x32 1) (main_v31 : IVec S2x256x16x64 1) (main_v33 : IVec S2x256x16x64 1) : IVec S2x16384x16x64 1 × IVec S2x16384x16x32 1 × IVec S16384x2x8 1 × IVec S16384x2x8 1 × IVec S2x256x16x64 1 × IVec S2x256x32 1 × IVec S2x256x16x64 1 × IVec S2x16384x16x64 1 × IVec S2x16384x32 1 × IVec S2x16384x16x64 1 :=
  let main_v34 : IVec S2x256x16x64 1 := andi main_v31 main_v33
  let main_cst_13 : FVec F S_ .f32 := constant S_ .f32 0x7F800000#32
  let main_v35 : FVec F S2x16384x16x64 .f32 := broadcastInDim S2x16384x16x64 ![] bcast_S_S2x16384x16x64 main_cst_13
  let main_v36 : IVec S2x16384x16x64 1 := cmpf .olt main_arg7 main_v35
  let main_cst_14 : FVec F S_ .f32 := constant S_ .f32 0xFF800000#32
  let main_v37 : FVec F S2x16384x16x64 .f32 := broadcastInDim S2x16384x16x64 ![] bcast_S_S2x16384x16x64 main_cst_14
  let main_v38 : IVec S2x16384x16x64 1 := cmpf .ogt main_arg7 main_v37
  let main_v39 : IVec S2x16384x16x64 1 := andi main_v36 main_v38
  let main_cst_15 : FVec F S_ .f32 := constant S_ .f32 0x7F800000#32
  let main_v40 : FVec F S2x16384x32 .f32 := broadcastInDim S2x16384x32 ![] bcast_S_S2x16384x32 main_cst_15
  let main_v41 : IVec S2x16384x32 1 := cmpf .olt main_arg8 main_v40
  let main_cst_16 : FVec F S_ .f32 := constant S_ .f32 0xFF800000#32
  let main_v42 : FVec F S2x16384x32 .f32 := broadcastInDim S2x16384x32 ![] bcast_S_S2x16384x32 main_cst_16
  let main_v43 : IVec S2x16384x32 1 := cmpf .ogt main_arg8 main_v42
  let main_v44 : IVec S2x16384x32 1 := andi main_v41 main_v43
  let main_cst_17 : FVec F S_ .f32 := constant S_ .f32 0x7F800000#32
  let main_v45 : FVec F S2x16384x16x64 .f32 := broadcastInDim S2x16384x16x64 ![] bcast_S_S2x16384x16x64 main_cst_17
  let main_v46 : IVec S2x16384x16x64 1 := cmpf .olt main_arg9 main_v45
  let main_cst_18 : FVec F S_ .f32 := constant S_ .f32 0xFF800000#32
  let main_v47 : FVec F S2x16384x16x64 .f32 := broadcastInDim S2x16384x16x64 ![] bcast_S_S2x16384x16x64 main_cst_18
  let main_v48 : IVec S2x16384x16x64 1 := cmpf .ogt main_arg9 main_v47
  let main_v49 : IVec S2x16384x16x64 1 := andi main_v46 main_v48
  (main_v4, main_v9, main_v14, main_v19, main_v24, main_v29, main_v34, main_v39, main_v44, main_v49)

def fn_part1 {F : FTy → Type} [FloatOps F] (main_arg3 : FVec F S16384x2x8 .f32) (main_arg4 : FVec F S2x256x16x64 .f32) (main_arg5 : FVec F S2x256x32 .f32) (main_arg6 : FVec F S2x256x16x64 .f32) (main_arg7 : FVec F S2x16384x16x64 .f32) (main_arg8 : FVec F S2x16384x32 .f32) (main_arg9 : FVec F S2x16384x16x64 .f32) (main_v4 : IVec S2x16384x16x64 1) (main_v9 : IVec S2x16384x16x32 1) (main_v14 : IVec S16384x2x8 1) (main_v16 : IVec S16384x2x8 1) : IVec S2x16384x16x64 1 × IVec S2x16384x16x32 1 × IVec S16384x2x8 1 × IVec S16384x2x8 1 × IVec S2x256x16x64 1 × IVec S2x256x32 1 × IVec S2x256x16x64 1 × IVec S2x16384x16x64 1 × IVec S2x16384x32 1 × IVec S2x16384x16x64 1 :=
  let main_cst_6 : FVec F S_ .f32 := constant S_ .f32 0xFF800000#32
  let main_v17 : FVec F S16384x2x8 .f32 := broadcastInDim S16384x2x8 ![] bcast_S_S16384x2x8 main_cst_6
  let main_v18 : IVec S16384x2x8 1 := cmpf .ogt main_arg3 main_v17
  let main_v19 : IVec S16384x2x8 1 := andi main_v16 main_v18
  let main_cst_7 : FVec F S_ .f32 := constant S_ .f32 0x7F800000#32
  let main_v20 : FVec F S2x256x16x64 .f32 := broadcastInDim S2x256x16x64 ![] bcast_S_S2x256x16x64 main_cst_7
  let main_v21 : IVec S2x256x16x64 1 := cmpf .olt main_arg4 main_v20
  let main_cst_8 : FVec F S_ .f32 := constant S_ .f32 0xFF800000#32
  let main_v22 : FVec F S2x256x16x64 .f32 := broadcastInDim S2x256x16x64 ![] bcast_S_S2x256x16x64 main_cst_8
  let main_v23 : IVec S2x256x16x64 1 := cmpf .ogt main_arg4 main_v22
  let main_v24 : IVec S2x256x16x64 1 := andi main_v21 main_v23
  let main_cst_9 : FVec F S_ .f32 := constant S_ .f32 0x7F800000#32
  let main_v25 : FVec F S2x256x32 .f32 := broadcastInDim S2x256x32 ![] bcast_S_S2x256x32 main_cst_9
  let main_v26 : IVec S2x256x32 1 := cmpf .olt main_arg5 main_v25
  let main_cst_10 : FVec F S_ .f32 := constant S_ .f32 0xFF800000#32
  let main_v27 : FVec F S2x256x32 .f32 := broadcastInDim S2x256x32 ![] bcast_S_S2x256x32 main_cst_10
  let main_v28 : IVec S2x256x32 1 := cmpf .ogt main_arg5 main_v27
  let main_v29 : IVec S2x256x32 1 := andi main_v26 main_v28
  let main_cst_11 : FVec F S_ .f32 := constant S_ .f32 0x7F800000#32
  let main_v30 : FVec F S2x256x16x64 .f32 := broadcastInDim S2x256x16x64 ![] bcast_S_S2x256x16x64 main_cst_11
  let main_v31 : IVec S2x256x16x64 1 := cmpf .olt main_arg6 main_v30
  let main_cst_12 : FVec F S_ .f32 := constant S_ .f32 0xFF800000#32
  let main_v32 : FVec F S2x256x16x64 .f32 := broadcastInDim S2x256x16x64 ![] bcast_S_S2x256x16x64 main_cst_12
  let main_v33 : IVec S2x256x16x64 1 := cmpf .ogt main_arg6 main_v32
  fn_part2 (F := F) main_arg7 main_arg8 main_arg9 main_v4 main_v9 main_v14 main_v19 main_v24 main_v29 main_v31 main_v33

def fn {F : FTy → Type} [FloatOps F] (main_arg0 : FVec F S2x16384x16x64 .f32) (main_arg1 : FVec F S2x16384x16x32 .f32) (main_arg2 : FVec F S16384x2x8 .f32) (main_arg3 : FVec F S16384x2x8 .f32) (main_arg4 : FVec F S2x256x16x64 .f32) (main_arg5 : FVec F S2x256x32 .f32) (main_arg6 : FVec F S2x256x16x64 .f32) (main_arg7 : FVec F S2x16384x16x64 .f32) (main_arg8 : FVec F S2x16384x32 .f32) (main_arg9 : FVec F S2x16384x16x64 .f32) : IVec S2x16384x16x64 1 × IVec S2x16384x16x32 1 × IVec S16384x2x8 1 × IVec S16384x2x8 1 × IVec S2x256x16x64 1 × IVec S2x256x32 1 × IVec S2x256x16x64 1 × IVec S2x16384x16x64 1 × IVec S2x16384x32 1 × IVec S2x16384x16x64 1 :=
  let main_cst : FVec F S_ .f32 := constant S_ .f32 0x7F800000#32
  let main_v0 : FVec F S2x16384x16x64 .f32 := broadcastInDim S2x16384x16x64 ![] bcast_S_S2x16384x16x64 main_cst
  let main_v1 : IVec S2x16384x16x64 1 := cmpf .olt main_arg0 main_v0
  let main_cst_0 : FVec F S_ .f32 := constant S_ .f32 0xFF800000#32
  let main_v2 : FVec F S2x16384x16x64 .f32 := broadcastInDim S2x16384x16x64 ![] bcast_S_S2x16384x16x64 main_cst_0
  let main_v3 : IVec S2x16384x16x64 1 := cmpf .ogt main_arg0 main_v2
  let main_v4 : IVec S2x16384x16x64 1 := andi main_v1 main_v3
  let main_cst_1 : FVec F S_ .f32 := constant S_ .f32 0x7F800000#32
  let main_v5 : FVec F S2x16384x16x32 .f32 := broadcastInDim S2x16384x16x32 ![] bcast_S_S2x16384x16x32 main_cst_1
  let main_v6 : IVec S2x16384x16x32 1 := cmpf .olt main_arg1 main_v5
  let main_cst_2 : FVec F S_ .f32 := constant S_ .f32 0xFF800000#32
  let main_v7 : FVec F S2x16384x16x32 .f32 := broadcastInDim S2x16384x16x32 ![] bcast_S_S2x16384x16x32 main_cst_2
  let main_v8 : IVec S2x16384x16x32 1 := cmpf .ogt main_arg1 main_v7
  let main_v9 : IVec S2x16384x16x32 1 := andi main_v6 main_v8
  let main_cst_3 : FVec F S_ .f32 := constant S_ .f32 0x7F800000#32
  let main_v10 : FVec F S16384x2x8 .f32 := broadcastInDim S16384x2x8 ![] bcast_S_S16384x2x8 main_cst_3
  let main_v11 : IVec S16384x2x8 1 := cmpf .olt main_arg2 main_v10
  let main_cst_4 : FVec F S_ .f32 := constant S_ .f32 0xFF800000#32
  let main_v12 : FVec F S16384x2x8 .f32 := broadcastInDim S16384x2x8 ![] bcast_S_S16384x2x8 main_cst_4
  let main_v13 : IVec S16384x2x8 1 := cmpf .ogt main_arg2 main_v12
  let main_v14 : IVec S16384x2x8 1 := andi main_v11 main_v13
  let main_cst_5 : FVec F S_ .f32 := constant S_ .f32 0x7F800000#32
  let main_v15 : FVec F S16384x2x8 .f32 := broadcastInDim S16384x2x8 ![] bcast_S_S16384x2x8 main_cst_5
  let main_v16 : IVec S16384x2x8 1 := cmpf .olt main_arg3 main_v15
  fn_part1 (F := F) main_arg3 main_arg4 main_arg5 main_arg6 main_arg7 main_arg8 main_arg9 main_v4 main_v9 main_v14 main_v16
-- ==== Kernel.lean ====
abbrev S2x16384x16x64 : Shape := ⟨4, ![2, 16384, 16, 64]⟩
abbrev S2x16384x16x32 : Shape := ⟨4, ![2, 16384, 16, 32]⟩
abbrev S16384x2x8 : Shape := ⟨3, ![16384, 2, 8]⟩
abbrev S2x256x16x64 : Shape := ⟨4, ![2, 256, 16, 64]⟩
abbrev S2x256x32 : Shape := ⟨3, ![2, 256, 32]⟩
abbrev S2x16384x32 : Shape := ⟨3, ![2, 16384, 32]⟩
abbrev S_ : Shape := ⟨0, ![]⟩
abbrev S16384x2x1x8 : Shape := ⟨4, ![16384, 2, 1, 8]⟩
abbrev S16384x2x2x8 : Shape := ⟨4, ![16384, 2, 2, 8]⟩
abbrev S16384x32 : Shape := ⟨2, ![16384, 32]⟩
abbrev S16384x64 : Shape := ⟨2, ![16384, 64]⟩
abbrev S16384x128 : Shape := ⟨2, ![16384, 128]⟩
abbrev S2x16384x16x2x2x8 : Shape := ⟨6, ![2, 16384, 16, 2, 2, 8]⟩
abbrev S2x16384x16x2x1x8 : Shape := ⟨6, ![2, 16384, 16, 2, 1, 8]⟩
abbrev S2x16384x16x128 : Shape := ⟨4, ![2, 16384, 16, 128]⟩
abbrev S1x16384x1x128 : Shape := ⟨4, ![1, 16384, 1, 128]⟩
abbrev S2x16x16384x128 : Shape := ⟨4, ![2, 16, 16384, 128]⟩
abbrev S1x16384x32 : Shape := ⟨3, ![1, 16384, 32]⟩
abbrev S2x16384x2x2x8 : Shape := ⟨5, ![2, 16384, 2, 2, 8]⟩
abbrev S2x16384x2x1x8 : Shape := ⟨5, ![2, 16384, 2, 1, 8]⟩
abbrev S2x256x1x32 : Shape := ⟨4, ![2, 256, 1, 32]⟩
abbrev S2x256x16x32 : Shape := ⟨4, ![2, 256, 16, 32]⟩
abbrev S2x256x16x128 : Shape := ⟨4, ![2, 256, 16, 128]⟩
abbrev S2x16x128x256 : Shape := ⟨4, ![2, 16, 128, 256]⟩
abbrev S2x16x256x64 : Shape := ⟨4, ![2, 16, 256, 64]⟩
abbrev S2x8x2x256x64 : Shape := ⟨5, ![2, 8, 2, 256, 64]⟩
abbrev S2x8x1x256x64 : Shape := ⟨5, ![2, 8, 1, 256, 64]⟩
abbrev S2x8x256x64 : Shape := ⟨4, ![2, 8, 256, 64]⟩
abbrev S2x8x256x128 : Shape := ⟨4, ![2, 8, 256, 128]⟩
abbrev S2x8x1x256x128 : Shape := ⟨5, ![2, 8, 1, 256, 128]⟩
abbrev S2x8x2x256x128 : Shape := ⟨5, ![2, 8, 2, 256, 128]⟩
abbrev S2x16x256x128 : Shape := ⟨4, ![2, 16, 256, 128]⟩
abbrev S2x16384x1x32 : Shape := ⟨4, ![2, 16384, 1, 32]⟩
abbrev S2x16x128x16384 : Shape := ⟨4, ![2, 16, 128, 16384]⟩
abbrev S2x16x16384x64 : Shape := ⟨4, ![2, 16, 16384, 64]⟩
abbrev S2x8x2x16384x64 : Shape := ⟨5, ![2, 8, 2, 16384, 64]⟩
abbrev S2x8x1x16384x64 : Shape := ⟨5, ![2, 8, 1, 16384, 64]⟩
abbrev S2x8x16384x64 : Shape := ⟨4, ![2, 8, 16384, 64]⟩
abbrev S2x8x16384x128 : Shape := ⟨4, ![2, 8, 16384, 128]⟩
abbrev S2x8x1x16384x128 : Shape := ⟨5, ![2, 8, 1, 16384, 128]⟩
abbrev S2x8x2x16384x128 : Shape := ⟨5, ![2, 8, 2, 16384, 128]⟩
abbrev S2x16384x1024 : Shape := ⟨3, ![2, 16384, 1024]⟩
abbrev S1x2x1024x128 : Shape := ⟨4, ![1, 2, 1024, 128]⟩
abbrev S1x2x128x256 : Shape := ⟨4, ![1, 2, 128, 256]⟩
abbrev S1x2x256x128 : Shape := ⟨4, ![1, 2, 256, 128]⟩
abbrev S1x2x128x16384 : Shape := ⟨4, ![1, 2, 128, 16384]⟩
abbrev S1x2x16384x128 : Shape := ⟨4, ![1, 2, 16384, 128]⟩
abbrev S1x1024x128 : Shape := ⟨3, ![1, 1024, 128]⟩
abbrev S1x1x1024x128 : Shape := ⟨4, ![1, 1, 1024, 128]⟩
abbrev S1024x128 : Shape := ⟨2, ![1024, 128]⟩
abbrev S1x1x128x256 : Shape := ⟨4, ![1, 1, 128, 256]⟩
abbrev S128x256 : Shape := ⟨2, ![128, 256]⟩
abbrev S1x1x256x128 : Shape := ⟨4, ![1, 1, 256, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩
abbrev S1x1x128x1024 : Shape := ⟨4, ![1, 1, 128, 1024]⟩
abbrev S128x1024 : Shape := ⟨2, ![128, 1024]⟩
abbrev S1024x1024 : Shape := ⟨2, ![1024, 1024]⟩

abbrev nBuf : Space → Nat
  | .hbm => 131
  | .vmem => 12
  | .smem => 0
  | _ => 0

abbrev hbmTy0_0 (i : Nat) : BufTy := match i % 128 with
  | 0 => ⟨S2x16384x16x64, .f32⟩
  | 1 => ⟨S2x16384x16x32, .f32⟩
  | 2 => ⟨S16384x2x8, .f32⟩
  | 3 => ⟨S16384x2x8, .f32⟩
  | 4 => ⟨S2x256x16x64, .f32⟩
  | 5 => ⟨S2x256x32, .f32⟩
  | 6 => ⟨S2x256x16x64, .f32⟩
  | 7 => ⟨S2x16384x16x64, .f32⟩
  | 8 => ⟨S2x16384x32, .f32⟩
  | 9 => ⟨S2x16384x16x64, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S16384x2x1x8, .f32⟩
  | 18 => ⟨S16384x2x1x8, .f32⟩
  | 19 => ⟨S16384x2x2x8, .f32⟩
  | 20 => ⟨S16384x32, .f32⟩
  | 21 => ⟨S16384x2x8, .f32⟩
  | 22 => ⟨S16384x2x1x8, .f32⟩
  | 23 => ⟨S16384x2x1x8, .f32⟩
  | 24 => ⟨S16384x2x2x8, .f32⟩
  | 25 => ⟨S16384x32, .f32⟩
  | 26 => ⟨S_, .f32⟩
  | 27 => ⟨S16384x64, .f32⟩
  | 28 => ⟨S16384x128, .f32⟩
  | 29 => ⟨S16384x128, .f32⟩
  | 30 => ⟨S16384x128, .f32⟩
  | 31 => ⟨S2x16384x16x2x2x8, .f32⟩
  | 32 => ⟨S2x16384x16x2x1x8, .f32⟩
  | 33 => ⟨S2x16384x16x2x1x8, .f32⟩
  | 34 => ⟨S2x16384x16x2x2x8, .f32⟩
  | 35 => ⟨S2x16384x16x32, .f32⟩
  | 36 => ⟨S2x16384x16x128, .f32⟩
  | 37 => ⟨S1x16384x1x128, .f32⟩
  | 38 => ⟨S2x16384x16x128, .f32⟩
  | 39 => ⟨S2x16384x16x128, .f32⟩
  | 40 => ⟨S2x16x16384x128, .f32⟩
  | 41 => ⟨S2x16x16384x128, .bf16⟩
  | 42 => ⟨S1x16384x32, .f32⟩
  | 43 => ⟨S2x16384x32, .f32⟩
  | 44 => ⟨S2x16384x32, .f32⟩
  | 45 => ⟨S2x16384x2x2x8, .f32⟩
  | 46 => ⟨S2x16384x2x1x8, .f32⟩
  | 47 => ⟨S2x16384x2x1x8, .f32⟩
  | 48 => ⟨S2x16384x2x2x8, .f32⟩
  | 49 => ⟨S2x16384x32, .f32⟩
  | 50 => ⟨S1x16384x32, .f32⟩
  | 51 => ⟨S2x16384x32, .f32⟩
  | 52 => ⟨S2x16384x32, .f32⟩
  | 53 => ⟨S2x16384x32, .f32⟩
  | 54 => ⟨S2x256x1x32, .f32⟩
  | 55 => ⟨S2x256x16x32, .f32⟩
  | 56 => ⟨S2x256x16x128, .f32⟩
  | 57 => ⟨S2x16x128x256, .f32⟩
  | 58 => ⟨S2x16x128x256, .bf16⟩
  | 59 => ⟨S2x16x256x64, .f32⟩
  | 60 => ⟨S2x8x2x256x64, .f32⟩
  | 61 => ⟨S2x8x1x256x64, .f32⟩
  | 62 => ⟨S2x8x256x64, .f32⟩
  | 63 => ⟨S_, .f32⟩
  | 64 => ⟨S2x8x256x64, .f32⟩
  | 65 => ⟨S2x8x1x256x64, .f32⟩
  | 66 => ⟨S2x8x256x64, .f32⟩
  | 67 => ⟨S2x8x256x128, .f32⟩
  | 68 => ⟨S2x8x1x256x64, .f32⟩
  | 69 => ⟨S2x8x256x64, .f32⟩
  | 70 => ⟨S2x8x256x128, .f32⟩
  | 71 => ⟨S2x8x1x256x128, .f32⟩
  | 72 => ⟨S2x8x1x256x128, .f32⟩
  | 73 => ⟨S2x8x2x256x128, .f32⟩
  | 74 => ⟨S2x8x2x256x128, .i32⟩
  | 75 => ⟨S2x8x2x256x128, .i32⟩
  | 76 => ⟨S_, .i32⟩
  | 77 => ⟨S2x8x2x256x128, .i32⟩
  | 78 => ⟨S2x8x2x256x128, .i1⟩
  | 79 => ⟨S_, .i32⟩
  | 80 => ⟨S_, .i32⟩
  | 81 => ⟨S2x8x2x256x128, .i32⟩
  | 82 => ⟨S2x8x2x256x128, .i32⟩
  | 83 => ⟨S2x8x2x256x128, .i32⟩
  | 84 => ⟨S2x8x2x256x128, .i32⟩
  | 85 => ⟨S2x8x2x256x128, .i1⟩
  | 86 => ⟨S_, .f32⟩
  | 87 => ⟨S_, .f32⟩
  | 88 => ⟨S2x8x2x256x128, .f32⟩
  | 89 => ⟨S2x8x2x256x128, .f32⟩
  | 90 => ⟨S2x16x256x128, .f32⟩
  | 91 => ⟨S2x16x256x128, .bf16⟩
  | 92 => ⟨S2x16384x1x32, .f32⟩
  | 93 => ⟨S2x16384x16x32, .f32⟩
  | 94 => ⟨S2x16384x16x128, .f32⟩
  | 95 => ⟨S2x16x128x16384, .f32⟩
  | 96 => ⟨S2x16x128x16384, .bf16⟩
  | 97 => ⟨S2x16x16384x64, .f32⟩
  | 98 => ⟨S2x8x2x16384x64, .f32⟩
  | 99 => ⟨S2x8x1x16384x64, .f32⟩
  | 100 => ⟨S2x8x16384x64, .f32⟩
  | 101 => ⟨S_, .f32⟩
  | 102 => ⟨S2x8x16384x64, .f32⟩
  | 103 => ⟨S2x8x1x16384x64, .f32⟩
  | 104 => ⟨S2x8x16384x64, .f32⟩
  | 105 => ⟨S2x8x16384x128, .f32⟩
  | 106 => ⟨S2x8x1x16384x64, .f32⟩
  | 107 => ⟨S2x8x16384x64, .f32⟩
  | 108 => ⟨S2x8x16384x128, .f32⟩
  | 109 => ⟨S2x8x1x16384x128, .f32⟩
  | 110 => ⟨S2x8x1x16384x128, .f32⟩
  | 111 => ⟨S2x8x2x16384x128, .f32⟩
  | 112 => ⟨S2x8x2x16384x128, .i32⟩
  | 113 => ⟨S2x8x2x16384x128, .i32⟩
  | 114 => ⟨S_, .i32⟩
  | 115 => ⟨S2x8x2x16384x128, .i32⟩
  | 116 => ⟨S2x8x2x16384x128, .i1⟩
  | 117 => ⟨S_, .i32⟩
  | 118 => ⟨S_, .i32⟩
  | 119 => ⟨S2x8x2x16384x128, .i32⟩
  | 120 => ⟨S2x8x2x16384x128, .i32⟩
  | 121 => ⟨S2x8x2x16384x128, .i32⟩
  | 122 => ⟨S2x8x2x16384x128, .i32⟩
  | 123 => ⟨S2x8x2x16384x128, .i1⟩
  | 124 => ⟨S_, .f32⟩
  | 125 => ⟨S_, .f32⟩
  | 126 => ⟨S2x8x2x16384x128, .f32⟩
  | 127 => ⟨S2x8x2x16384x128, .f32⟩
  | _ => ⟨S2x16384x16x64, .f32⟩

abbrev hbmTy0_1 (i : Nat) : BufTy := match i % 128 with
  | 0 => ⟨S2x16x16384x128, .f32⟩
  | 1 => ⟨S2x16x16384x128, .bf16⟩
  | 2 => ⟨S2x16384x1024, .bf16⟩
  | _ => ⟨S2x16384x16x64, .f32⟩

abbrev hbmTy (i : Nat) : BufTy := match i / 128 with
  | 0 => hbmTy0_0 i
  | 1 => hbmTy0_1 i
  | _ => ⟨S2x16384x16x64, .f32⟩

abbrev bufTy : (tb : Table) → Fin (tcTables nBuf tb) → BufTy
  | .hbm, ⟨i, _⟩ => hbmTy i
  | .local _ .vmem, ⟨0, _⟩ => ⟨S1x2x1024x128, .bf16⟩
  | .local _ .vmem, ⟨1, _⟩ => ⟨S1x2x1024x128, .bf16⟩
  | .local _ .vmem, ⟨2, _⟩ => ⟨S1x2x128x256, .bf16⟩
  | .local _ .vmem, ⟨3, _⟩ => ⟨S1x2x128x256, .bf16⟩
  | .local _ .vmem, ⟨4, _⟩ => ⟨S1x2x256x128, .bf16⟩
  | .local _ .vmem, ⟨5, _⟩ => ⟨S1x2x256x128, .bf16⟩
  | .local _ .vmem, ⟨6, _⟩ => ⟨S1x2x128x16384, .bf16⟩
  | .local _ .vmem, ⟨7, _⟩ => ⟨S1x2x128x16384, .bf16⟩
  | .local _ .vmem, ⟨8, _⟩ => ⟨S1x2x16384x128, .bf16⟩
  | .local _ .vmem, ⟨9, _⟩ => ⟨S1x2x16384x128, .bf16⟩
  | .local _ .vmem, ⟨10, _⟩ => ⟨S1x1024x128, .bf16⟩
  | .local _ .vmem, ⟨11, _⟩ => ⟨S1x1024x128, .bf16⟩
  | _, _ => ⟨S2x16384x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_3 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c : Ref sig .tc := ⟨.hbm, 76, rfl⟩
abbrev main_v61 : Ref sig .tc := ⟨.hbm, 77, rfl⟩
abbrev main_v62 : Ref sig .tc := ⟨.hbm, 78, rfl⟩
abbrev main_c_4 : Ref sig .tc := ⟨.hbm, 79, rfl⟩
abbrev main_c_5 : Ref sig .tc := ⟨.hbm, 80, rfl⟩
abbrev main_call0_v0 : Ref sig .tc := ⟨.hbm, 81, rfl⟩
abbrev main_call0_v1 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_6 : Ref sig .tc := ⟨.hbm, 86, rfl⟩
abbrev main_call1_v0 : Ref sig .tc := ⟨.hbm, 87, rfl⟩
abbrev main_call1_v1 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_7 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_c_8 : Ref sig .tc := ⟨.hbm, 114, rfl⟩
abbrev main_v90 : Ref sig .tc := ⟨.hbm, 115, rfl⟩
abbrev main_v91 : Ref sig .tc := ⟨.hbm, 116, rfl⟩
abbrev main_c_9 : Ref sig .tc := ⟨.hbm, 117, rfl⟩
abbrev main_c_10 : Ref sig .tc := ⟨.hbm, 118, rfl⟩
abbrev main_call2_v0 : Ref sig .tc := ⟨.hbm, 119, rfl⟩
abbrev main_call2_v1 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_11 : Ref sig .tc := ⟨.hbm, 124, rfl⟩
abbrev main_call3_v0 : Ref sig .tc := ⟨.hbm, 125, rfl⟩
abbrev main_call3_v1 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 16], ![false, false, false]⟩

@[reducible] def k0_t1_loop : Scf.Loop 32 :=
  let c0_i32 : BitVec 32 := 0#32
  let c2_i32 : BitVec 32 := 2#32
  let v316 : BitVec 32 := Scalar.addi c0_i32 c2_i32
  let c1_i32 : BitVec 32 := 1#32
  ⟨c0_i32, v316, c1_i32⟩
def k0_mult1 (k0_t1 : Fin k0_t1_loop.trips) : BitVec 32 :=
  let c8192_i32 : BitVec 32 := 8192#32
  let c0_i32 : BitVec 32 := 0#32
  let c1_i32 : BitVec 32 := 1#32
  let arg9 : BitVec 32 := Scf.iv c0_i32 c1_i32 k0_t1
  let c4096_i32 : BitVec 32 := 4096#32
  let v346 : BitVec 32 := Scalar.muli arg9 c4096_i32
  let v347 : BitVec 32 := Scalar.addi c8192_i32 v346
  v347
def k0_mult2 (k0_t1 : Fin k0_t1_loop.trips) : BitVec 32 :=
  let c8192_i32 : BitVec 32 := 8192#32
  let c0_i32 : BitVec 32 := 0#32
  let c1_i32 : BitVec 32 := 1#32
  let arg9 : BitVec 32 := Scf.iv c0_i32 c1_i32 k0_t1
  let c4096_i32 : BitVec 32 := 4096#32
  let v346 : BitVec 32 := Scalar.muli arg9 c4096_i32
  let v347 : BitVec 32 := Scalar.addi c8192_i32 v346
  let v348 : BitVec 32 := v347
  let c0_i32_208 : BitVec 32 := 0#32
  let v349 : BitVec 32 := Scalar.addi v348 c0_i32_208
  v349
def k0_off1 (k0_t1 : Fin k0_t1_loop.trips) (c0_i32_208 : BitVec 32) : Fin 4 → Nat :=
  let c0_209 : Index := 0#32
  let c0_210 : Index := 0#32
  let c0_211 : Index := 0#32
  let c8192_i32 : BitVec 32 := 8192#32
  let c0_i32 : BitVec 32 := 0#32
  let c1_i32 : BitVec 32 := 1#32
  let arg9 : BitVec 32 := Scf.iv c0_i32 c1_i32 k0_t1
  let c4096_i32 : BitVec 32 := 4096#32
  let v346 : BitVec 32 := Scalar.muli arg9 c4096_i32
  let v347 : BitVec 32 := Scalar.addi c8192_i32 v346
  let v348 : BitVec 32 := v347
  let v349 : BitVec 32 := Scalar.addi v348 c0_i32_208
  let v350 : BitVec 32 := v349
  let v351 : Index := Scalar.indexCast v350
  ![0, 0, 0, v351.toNat]
def k0_off2 (k0_t1 : Fin k0_t1_loop.trips) (c0_i32_208 : BitVec 32) : Fin 4 → Nat :=
  let c0_212 : Index := 0#32
  let c0_213 : Index := 0#32
  let c8192_i32 : BitVec 32 := 8192#32
  let c0_i32 : BitVec 32 := 0#32
  let c1_i32 : BitVec 32 := 1#32
  let arg9 : BitVec 32 := Scf.iv c0_i32 c1_i32 k0_t1
  let c4096_i32 : BitVec 32 := 4096#32
  let v346 : BitVec 32 := Scalar.muli arg9 c4096_i32
  let v347 : BitVec 32 := Scalar.addi c8192_i32 v346
  let v348 : BitVec 32 := v347
  let v349 : BitVec 32 := Scalar.addi v348 c0_i32_208
  let v350 : BitVec 32 := v349
  let v354 : Index := Scalar.indexCast v350
  let c0_214 : Index := 0#32
  ![0, 0, v354.toNat, 0]
def k0_off3 (k0_t1 : Fin k0_t1_loop.trips) (c0_i32_208 : BitVec 32) : Fin 4 → Nat :=
  let c0_218 : Index := 0#32
  let c1_219 : Index := 1#32
  let c0_220 : Index := 0#32
  let c8192_i32 : BitVec 32 := 8192#32
  let c0_i32 : BitVec 32 := 0#32
  let c1_i32 : BitVec 32 := 1#32
  let arg9 : BitVec 32 := Scf.iv c0_i32 c1_i32 k0_t1
  let c4096_i32 : BitVec 32 := 4096#32
  let v346 : BitVec 32 := Scalar.muli arg9 c4096_i32
  let v347 : BitVec 32 := Scalar.addi c8192_i32 v346
  let v348 : BitVec 32 := v347
  let v349 : BitVec 32 := Scalar.addi v348 c0_i32_208
  let v350 : BitVec 32 := v349
  let v371 : Index := Scalar.indexCast v350
  ![0, 1, 0, v371.toNat]
def k0_off4 (k0_t1 : Fin k0_t1_loop.trips) (c0_i32_208 : BitVec 32) : Fin 4 → Nat :=
  let c0_221 : Index := 0#32
  let c1_222 : Index := 1#32
  let c8192_i32 : BitVec 32 := 8192#32
  let c0_i32 : BitVec 32 := 0#32
  let c1_i32 : BitVec 32 := 1#32
  let arg9 : BitVec 32 := Scf.iv c0_i32 c1_i32 k0_t1
  let c4096_i32 : BitVec 32 := 4096#32
  let v346 : BitVec 32 := Scalar.muli arg9 c4096_i32
  let v347 : BitVec 32 := Scalar.addi c8192_i32 v346
  let v348 : BitVec 32 := v347
  let v349 : BitVec 32 := Scalar.addi v348 c0_i32_208
  let v350 : BitVec 32 := v349
  let v374 : Index := Scalar.indexCast v350
  let c0_223 : Index := 0#32
  ![0, 1, v374.toNat, 0]
def k0_mult3 (k0_t1 : Fin k0_t1_loop.trips) : BitVec 32 :=
  let c8192_i32 : BitVec 32 := 8192#32
  let c0_i32 : BitVec 32 := 0#32
  let c1_i32 : BitVec 32 := 1#32
  let arg9 : BitVec 32 := Scf.iv c0_i32 c1_i32 k0_t1
  let c4096_i32 : BitVec 32 := 4096#32
  let v346 : BitVec 32 := Scalar.muli arg9 c4096_i32
  let v347 : BitVec 32 := Scalar.addi c8192_i32 v346
  let v348 : BitVec 32 := v347
  let c1024_i32 : BitVec 32 := 1024#32
  let v391 : BitVec 32 := Scalar.addi v348 c1024_i32
  v391
def k0_mult4 (k0_t1 : Fin k0_t1_loop.trips) : BitVec 32 :=
  let c8192_i32 : BitVec 32 := 8192#32
  let c0_i32 : BitVec 32 := 0#32
  let c1_i32 : BitVec 32 := 1#32
  let arg9 : BitVec 32 := Scf.iv c0_i32 c1_i32 k0_t1
  let c4096_i32 : BitVec 32 := 4096#32
  let v346 : BitVec 32 := Scalar.muli arg9 c4096_i32
  let v347 : BitVec 32 := Scalar.addi c8192_i32 v346
  let v348 : BitVec 32 := v347
  let c2048_i32 : BitVec 32 := 2048#32
  let v433 : BitVec 32 := Scalar.addi v348 c2048_i32
  v433
def k0_mult5 (k0_t1 : Fin k0_t1_loop.trips) : BitVec 32 :=
  let c8192_i32 : BitVec 32 := 8192#32
  let c0_i32 : BitVec 32 := 0#32
  let c1_i32 : BitVec 32 := 1#32
  let arg9 : BitVec 32 := Scf.iv c0_i32 c1_i32 k0_t1
  let c4096_i32 : BitVec 32 := 4096#32
  let v346 : BitVec 32 := Scalar.muli arg9 c4096_i32
  let v347 : BitVec 32 := Scalar.addi c8192_i32 v346
  let v348 : BitVec 32 := v347
  let c3072_i32 : BitVec 32 := 3072#32
  let v475 : BitVec 32 := Scalar.addi v348 c3072_i32
  v475
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x16384x16x64 : Shape := ⟨4, ![2, 16384, 16, 64]⟩
abbrev S2x16384x16x32 : Shape := ⟨4, ![2, 16384, 16, 32]⟩
abbrev S16384x2x8 : Shape := ⟨3, ![16384, 2, 8]⟩
abbrev S2x256x16x64 : Shape := ⟨4, ![2, 256, 16, 64]⟩
abbrev S2x256x32 : Shape := ⟨3, ![2, 256, 32]⟩
abbrev S2x16384x32 : Shape := ⟨3, ![2, 16384, 32]⟩
abbrev S16384x1x2x8 : Shape := ⟨4, ![16384, 1, 2, 8]⟩
abbrev S2x16384x16x2x2x8 : Shape := ⟨6, ![2, 16384, 16, 2, 2, 8]⟩
abbrev S2x16384x16x2x1x8 : Shape := ⟨6, ![2, 16384, 16, 2, 1, 8]⟩
abbrev S2x16384x16x2x8 : Shape := ⟨5, ![2, 16384, 16, 2, 8]⟩
abbrev S1x16384x1x2x8 : Shape := ⟨5, ![1, 16384, 1, 2, 8]⟩
abbrev S2x16384x2x2x8 : Shape := ⟨5, ![2, 16384, 2, 2, 8]⟩
abbrev S2x16384x2x1x8 : Shape := ⟨5, ![2, 16384, 2, 1, 8]⟩
abbrev S2x16384x2x8 : Shape := ⟨4, ![2, 16384, 2, 8]⟩
abbrev S1x16384x2x8 : Shape := ⟨4, ![1, 16384, 2, 8]⟩
abbrev S2x16640x16x64 : Shape := ⟨4, ![2, 16640, 16, 64]⟩
abbrev S2x16640x32 : Shape := ⟨3, ![2, 16640, 32]⟩
abbrev S2x16x16384x16640 : Shape := ⟨4, ![2, 16, 16384, 16640]⟩
abbrev S2x16640x16384x16 : Shape := ⟨4, ![2, 16640, 16384, 16]⟩
abbrev S_ : Shape := ⟨0, ![]⟩
abbrev S2x16x16384 : Shape := ⟨3, ![2, 16, 16384]⟩
abbrev S2x16x16384x1 : Shape := ⟨4, ![2, 16, 16384, 1]⟩
abbrev S2x16x64x16384 : Shape := ⟨4, ![2, 16, 64, 16384]⟩
abbrev S2x16384x1024 : Shape := ⟨3, ![2, 16384, 1024]⟩

abbrev nBuf : Space → Nat
  | .hbm => 87
  | .vmem => 0
  | .smem => 0
  | _ => 0

abbrev bufTy : (tb : Table) → Fin (tcTables nBuf tb) → BufTy
  | .hbm, ⟨0, _⟩ => ⟨S2x16384x16x64, .f32⟩
  | .hbm, ⟨1, _⟩ => ⟨S2x16384x16x32, .f32⟩
  | .hbm, ⟨2, _⟩ => ⟨S16384x2x8, .f32⟩
  | .hbm, ⟨3, _⟩ => ⟨S16384x2x8, .f32⟩
  | .hbm, ⟨4, _⟩ => ⟨S2x256x16x64, .f32⟩
  | .hbm, ⟨5, _⟩ => ⟨S2x256x32, .f32⟩
  | .hbm, ⟨6, _⟩ => ⟨S2x256x16x64, .f32⟩
  | .hbm, ⟨7, _⟩ => ⟨S2x16384x16x64, .f32⟩
  | .hbm, ⟨8, _⟩ => ⟨S2x16384x32, .f32⟩
  | .hbm, ⟨9, _⟩ => ⟨S2x16384x16x64, .f32⟩
  | .hbm, ⟨10, _⟩ => ⟨S16384x1x2x8, .f32⟩
  | .hbm, ⟨11, _⟩ => ⟨S16384x1x2x8, .f32⟩
  | .hbm, ⟨12, _⟩ => ⟨S2x16384x16x2x2x8, .f32⟩
  | .hbm, ⟨13, _⟩ => ⟨S2x16384x16x2x1x8, .f32⟩
  | .hbm, ⟨14, _⟩ => ⟨S2x16384x16x2x8, .f32⟩
  | .hbm, ⟨15, _⟩ => ⟨S2x16384x16x2x1x8, .f32⟩
  | .hbm, ⟨16, _⟩ => ⟨S2x16384x16x2x8, .f32⟩
  | .hbm, ⟨17, _⟩ => ⟨S1x16384x1x2x8, .f32⟩
  | .hbm, ⟨18, _⟩ => ⟨S2x16384x16x2x8, .f32⟩
  | .hbm, ⟨19, _⟩ => ⟨S2x16384x16x2x8, .f32⟩
  | .hbm, ⟨20, _⟩ => ⟨S1x16384x1x2x8, .f32⟩
  | .hbm, ⟨21, _⟩ => ⟨S2x16384x16x2x8, .f32⟩
  | .hbm, ⟨22, _⟩ => ⟨S2x16384x16x2x8, .f32⟩
  | .hbm, ⟨23, _⟩ => ⟨S2x16384x16x2x8, .f32⟩
  | .hbm, ⟨24, _⟩ => ⟨S1x16384x1x2x8, .f32⟩
  | .hbm, ⟨25, _⟩ => ⟨S2x16384x16x2x8, .f32⟩
  | .hbm, ⟨26, _⟩ => ⟨S2x16384x16x2x8, .f32⟩
  | .hbm, ⟨27, _⟩ => ⟨S1x16384x1x2x8, .f32⟩
  | .hbm, ⟨28, _⟩ => ⟨S2x16384x16x2x8, .f32⟩
  | .hbm, ⟨29, _⟩ => ⟨S2x16384x16x2x8, .f32⟩
  | .hbm, ⟨30, _⟩ => ⟨S2x16384x16x2x8, .f32⟩
  | .hbm, ⟨31, _⟩ => ⟨S2x16384x16x2x1x8, .f32⟩
  | .hbm, ⟨32, _⟩ => ⟨S2x16384x16x2x1x8, .f32⟩
  | .hbm, ⟨33, _⟩ => ⟨S2x16384x16x2x2x8, .f32⟩
  | .hbm, ⟨34, _⟩ => ⟨S2x16384x16x32, .f32⟩
  | .hbm, ⟨35, _⟩ => ⟨S2x16384x2x2x8, .f32⟩
  | .hbm, ⟨36, _⟩ => ⟨S2x16384x2x1x8, .f32⟩
  | .hbm, ⟨37, _⟩ => ⟨S2x16384x2x8, .f32⟩
  | .hbm, ⟨38, _⟩ => ⟨S2x16384x2x1x8, .f32⟩
  | .hbm, ⟨39, _⟩ => ⟨S2x16384x2x8, .f32⟩
  | .hbm, ⟨40, _⟩ => ⟨S1x16384x2x8, .f32⟩
  | .hbm, ⟨41, _⟩ => ⟨S2x16384x2x8, .f32⟩
  | .hbm, ⟨42, _⟩ => ⟨S2x16384x2x8, .f32⟩
  | .hbm, ⟨43, _⟩ => ⟨S1x16384x2x8, .f32⟩
  | .hbm, ⟨44, _⟩ => ⟨S2x16384x2x8, .f32⟩
  | .hbm, ⟨45, _⟩ => ⟨S2x16384x2x8, .f32⟩
  | .hbm, ⟨46, _⟩ => ⟨S2x16384x2x8, .f32⟩
  | .hbm, ⟨47, _⟩ => ⟨S1x16384x2x8, .f32⟩
  | .hbm, ⟨48, _⟩ => ⟨S2x16384x2x8, .f32⟩
  | .hbm, ⟨49, _⟩ => ⟨S2x16384x2x8, .f32⟩
  | .hbm, ⟨50, _⟩ => ⟨S1x16384x2x8, .f32⟩
  | .hbm, ⟨51, _⟩ => ⟨S2x16384x2x8, .f32⟩
  | .hbm, ⟨52, _⟩ => ⟨S2x16384x2x8, .f32⟩
  | .hbm, ⟨53, _⟩ => ⟨S2x16384x2x8, .f32⟩
  | .hbm, ⟨54, _⟩ => ⟨S2x16384x2x1x8, .f32⟩
  | .hbm, ⟨55, _⟩ => ⟨S2x16384x2x1x8, .f32⟩
  | .hbm, ⟨56, _⟩ => ⟨S2x16384x2x2x8, .f32⟩
  | .hbm, ⟨57, _⟩ => ⟨S2x16384x32, .f32⟩
  | .hbm, ⟨58, _⟩ => ⟨S2x16640x16x64, .f32⟩
  | .hbm, ⟨59, _⟩ => ⟨S2x16640x32, .f32⟩
  | .hbm, ⟨60, _⟩ => ⟨S2x16640x16x64, .f32⟩
  | .hbm, ⟨61, _⟩ => ⟨S2x16x16384x16640, .f32⟩
  | .hbm, ⟨62, _⟩ => ⟨S2x16640x16384x16, .f32⟩
  | .hbm, ⟨63, _⟩ => ⟨S2x16x16384x16640, .f32⟩
  | .hbm, ⟨64, _⟩ => ⟨S2x16x16384x16640, .f32⟩
  | .hbm, ⟨65, _⟩ => ⟨S_, .f32⟩
  | .hbm, ⟨66, _⟩ => ⟨S_, .f32⟩
  | .hbm, ⟨67, _⟩ => ⟨S2x16x16384x16640, .f32⟩
  | .hbm, ⟨68, _⟩ => ⟨S2x16x16384x16640, .f32⟩
  | .hbm, ⟨69, _⟩ => ⟨S_, .f32⟩
  | .hbm, ⟨70, _⟩ => ⟨S2x16x16384, .f32⟩
  | .hbm, ⟨71, _⟩ => ⟨S_, .f32⟩
  | .hbm, ⟨72, _⟩ => ⟨S2x16x16384, .f32⟩
  | .hbm, ⟨73, _⟩ => ⟨S2x16x16384, .f32⟩
  | .hbm, ⟨74, _⟩ => ⟨S2x16x16384x1, .f32⟩
  | .hbm, ⟨75, _⟩ => ⟨S2x16x16384x16640, .f32⟩
  | .hbm, ⟨76, _⟩ => ⟨S2x16x16384x16640, .f32⟩
  | .hbm, ⟨77, _⟩ => ⟨S2x16x16384x16640, .f32⟩
  | .hbm, ⟨78, _⟩ => ⟨S_, .f32⟩
  | .hbm, ⟨79, _⟩ => ⟨S2x16x16384, .f32⟩
  | .hbm, ⟨80, _⟩ => ⟨S2x16x16384x1, .f32⟩
  | .hbm, ⟨81, _⟩ => ⟨S2x16x16384x16640, .f32⟩
  | .hbm, ⟨82, _⟩ => ⟨S2x16x16384x16640, .f32⟩
  | .hbm, ⟨83, _⟩ => ⟨S2x16x64x16384, .f32⟩
  | .hbm, ⟨84, _⟩ => ⟨S2x16384x16x64, .f32⟩
  | .hbm, ⟨85, _⟩ => ⟨S2x16384x1024, .f32⟩
  | .hbm, ⟨86, _⟩ => ⟨S2x16384x1024, .bf16⟩
  | _, _ => ⟨S2x16384x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_0 : Ref sig .tc := ⟨.hbm, 69, rfl⟩
abbrev main_v58 : Ref sig .tc := ⟨.hbm, 70, rfl⟩
abbrev main_cst_1 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_2 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩

abbrev nD : Nat := 1
abbrev τ : Topo := Topo.v7x

variable {F : FTy → Type} [FloatOps F]
-- ==== Kernel2.lean ====
abbrev S8 : Shape := ⟨1, ![8]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S_ : Shape := ⟨0, ![]⟩
abbrev S136 : Shape := ⟨1, ![136]⟩
abbrev S136x1 : Shape := ⟨2, ![136, 1]⟩
abbrev S1x8 : Shape := ⟨2, ![1, 8]⟩
abbrev S136x8 : Shape := ⟨2, ![136, 8]⟩
abbrev S1 : Shape := ⟨1, ![1]⟩
abbrev S512x1024 : Shape := ⟨2, ![512, 1024]⟩
abbrev S1x1024x3584 : Shape := ⟨3, ![1, 1024, 3584]⟩
abbrev S1x3584x1024 : Shape := ⟨3, ![1, 3584, 1024]⟩
abbrev S1x1024x1792 : Shape := ⟨3, ![1, 1024, 1792]⟩
abbrev S1024x1792 : Shape := ⟨2, ![1024, 1792]⟩
abbrev S512x1792 : Shape := ⟨2, ![512, 1792]⟩
abbrev S1x1792x1024 : Shape := ⟨3, ![1, 1792, 1024]⟩
abbrev S1792x1024 : Shape := ⟨2, ![1792, 1024]⟩

abbrev nBuf : Space → Nat
  | .hbm => 99
  | .vmem => 7
  | .smem => 3
  | _ => 0

abbrev bufTy : (tb : Table) → Fin (tcTables nBuf tb) → BufTy
  | .hbm, ⟨0, _⟩ => ⟨S8, .i32⟩
  | .hbm, ⟨1, _⟩ => ⟨S69632x1024, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S8, .i32⟩
  | .hbm, ⟨35, _⟩ => ⟨S8, .i32⟩
  | .hbm, ⟨36, _⟩ => ⟨S136, .i32⟩
  | .hbm, ⟨37, _⟩ => ⟨S_, .i32⟩
  | .hbm, ⟨38, _⟩ => ⟨S136, .i32⟩
  | .hbm, ⟨39, _⟩ => ⟨S136, .i32⟩
  | .hbm, ⟨40, _⟩ => ⟨S136x1, .i32⟩
  | .hbm, ⟨41, _⟩ => ⟨S1x8, .i32⟩
  | .hbm, ⟨42, _⟩ => ⟨S136x8, .i32⟩
  | .hbm, ⟨43, _⟩ => ⟨S136x8, .i32⟩
  | .hbm, ⟨44, _⟩ => ⟨S136x8, .i1⟩
  | .hbm, ⟨45, _⟩ => ⟨S136x8, .i32⟩
  | .hbm, ⟨46, _⟩ => ⟨S_, .i32⟩
  | .hbm, ⟨47, _⟩ => ⟨S136, .i32⟩
  | .hbm, ⟨48, _⟩ => ⟨S_, .i32⟩
  | .hbm, ⟨49, _⟩ => ⟨S136, .i32⟩
  | .hbm, ⟨50, _⟩ => ⟨S_, .i32⟩
  | .hbm, ⟨51, _⟩ => ⟨S136, .i32⟩
  | .hbm, ⟨52, _⟩ => ⟨S136, .i1⟩
  | .hbm, ⟨53, _⟩ => ⟨S_, .i32⟩
  | .hbm, ⟨54, _⟩ => ⟨S136, .i32⟩
  | .hbm, ⟨55, _⟩ => ⟨S136, .i32⟩
  | .hbm, ⟨56, _⟩ => ⟨S136, .i32⟩
  | .hbm, ⟨57, _⟩ => ⟨S136x1, .i32⟩
  | .hbm, ⟨58, _⟩ => ⟨S136, .i32⟩
  | .hbm, ⟨59, _⟩ => ⟨S_, .i32⟩
  | .hbm, ⟨60, _⟩ => ⟨S136, .i32⟩
  | .hbm, ⟨61, _⟩ => ⟨S136, .i1⟩
  | .hbm, ⟨62, _⟩ => ⟨S_, .i32⟩
  | .hbm, ⟨63, _⟩ => ⟨S136, .i32⟩
  | .hbm, ⟨64, _⟩ => ⟨S136, .i32⟩
  | .hbm, ⟨65, _⟩ => ⟨S136, .i32⟩
  | .hbm, ⟨66, _⟩ => ⟨S136x1, .i32⟩
  | .hbm, ⟨67, _⟩ => ⟨S136, .i32⟩
  | .hbm, ⟨68, _⟩ => ⟨S136, .i32⟩
  | .hbm, ⟨69, _⟩ => ⟨S136, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S136, .i32⟩
  | .hbm, ⟨74, _⟩ => ⟨S136, .i32⟩
  | .hbm, ⟨75, _⟩ => ⟨S_, .i32⟩
  | .hbm, ⟨76, _⟩ => ⟨S136, .i32⟩
  | .hbm, ⟨77, _⟩ => ⟨S1, .i32⟩
  | .hbm, ⟨78, _⟩ => ⟨S_, .i32⟩
  | .hbm, ⟨79, _⟩ => ⟨S_, .i32⟩
  | .hbm, ⟨80, _⟩ => ⟨S1, .i32⟩
  | .hbm, ⟨81, _⟩ => ⟨S1, .i32⟩
  | .hbm, ⟨82, _⟩ => ⟨S1, .i32⟩
  | .hbm, ⟨83, _⟩ => ⟨S_, .i32⟩
  | .hbm, ⟨84, _⟩ => ⟨S1, .i32⟩
  | .hbm, ⟨85, _⟩ => ⟨S1, .i1⟩
  | .hbm, ⟨86, _⟩ => ⟨S1, .i32⟩
  | .hbm, ⟨87, _⟩ => ⟨S1, .i32⟩
  | .hbm, ⟨88, _⟩ => ⟨S_, .i32⟩
  | .hbm, ⟨89, _⟩ => ⟨S1, .i32⟩
  | .hbm, ⟨90, _⟩ => ⟨S1, .i1⟩
  | .hbm, ⟨91, _⟩ => ⟨S1, .i1⟩
  | .hbm, ⟨92, _⟩ => ⟨S_, .i32⟩
  | .hbm, ⟨93, _⟩ => ⟨S1, .i32⟩
  | .hbm, ⟨94, _⟩ => ⟨S1, .i32⟩
  | .hbm, ⟨95, _⟩ => ⟨S8x1024x3584, .bf16⟩
  | .hbm, ⟨96, _⟩ => ⟨S8x1024x3584, .bf16⟩
  | .hbm, ⟨97, _⟩ => ⟨S8x3584x1024, .bf16⟩
  | .hbm, ⟨98, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x3584, .bf16⟩
  | .local _ .vmem, ⟨3, _⟩ => ⟨S1x1024x3584, .bf16⟩
  | .local _ .vmem, ⟨4, _⟩ => ⟨S1x3584x1024, .bf16⟩
  | .local _ .vmem, ⟨5, _⟩ => ⟨S512x1024, .f32⟩
  | .local _ .vmem, ⟨6, _⟩ => ⟨S512x1024, .f32⟩
  | .local _ .smem, ⟨0, _⟩ => ⟨S136, .i32⟩
  | .local _ .smem, ⟨1, _⟩ => ⟨S136, .i32⟩
  | .local _ .smem, ⟨2, _⟩ => ⟨S1, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_4 : Ref sig .tc := ⟨.hbm, 46, rfl⟩
abbrev main_v18 : Ref sig .tc := ⟨.hbm, 47, rfl⟩
abbrev main_c_5 : Ref sig .tc := ⟨.hbm, 48, rfl⟩
abbrev main_v19 : Ref sig .tc := ⟨.hbm, 49, rfl⟩
abbrev main_c_6 : Ref sig .tc := ⟨.hbm, 50, rfl⟩
abbrev main_v21 : Ref sig .tc := ⟨.hbm, 51, rfl⟩
abbrev main_v22 : Ref sig .tc := ⟨.hbm, 52, rfl⟩
abbrev main_c_7 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_8 : Ref sig .tc := ⟨.hbm, 59, rfl⟩
abbrev main_v28 : Ref sig .tc := ⟨.hbm, 60, rfl⟩
abbrev main_v29 : Ref sig .tc := ⟨.hbm, 61, rfl⟩
abbrev main_c_9 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_10 : Ref sig .tc := ⟨.hbm, 70, rfl⟩
abbrev main_c_11 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v38 : Ref sig .tc := ⟨.hbm, 77, rfl⟩
abbrev main_c_12 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_c : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_0 : Ref sig .tc := ⟨.hbm, 92, rfl⟩
abbrev main_call3_v12 : Ref sig .tc := ⟨.hbm, 93, rfl⟩
abbrev main_call3_v13 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v20 : Ref sig .tc := ⟨.smem, 0, rfl⟩
abbrev main_v37 : Ref sig .tc := ⟨.smem, 1, rfl⟩
abbrev main_v39 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![136], ![false]⟩

abbrev pre0 : Pipeline.Prefetch sig := ⟨3, ![main_v20.idx, main_v37.idx, main_v39.idx], fun | 0 => main_v20.names | 1 => main_v37.names | 2 => main_v39.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8 : Shape := ⟨1, ![8]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S69632 : Shape := ⟨1, ![69632]⟩
abbrev S_ : Shape := ⟨0, ![]⟩
abbrev S1 : Shape := ⟨1, ![1]⟩
abbrev S69632x1 : Shape := ⟨2, ![69632, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S69632x3584 : Shape := ⟨2, ![69632, 3584]⟩

abbrev nBuf : Space → Nat
  | .hbm => 483
  | .vmem => 0
  | .smem => 0
  | _ => 0

abbrev hbmTy0_0 (i : Nat) : BufTy := match i % 128 with
  | 0 => ⟨S8, .i32⟩
  | 1 => ⟨S69632x1024, .f32⟩
  | 2 => ⟨S8x1024x3584, .f32⟩
  | 3 => ⟨S8x1024x3584, .f32⟩
  | 4 => ⟨S8x3584x1024, .f32⟩
  | 5 => ⟨S69632, .i32⟩
  | 6 => ⟨S_, .f32⟩
  | 7 => ⟨S69632x1024, .f32⟩
  | 8 => ⟨S_, .i32⟩
  | 9 => ⟨S69632, .i32⟩
  | 10 => ⟨S69632, .i1⟩
  | 11 => ⟨S1, .i32⟩
  | 12 => ⟨S_, .i32⟩
  | 13 => ⟨S_, .i32⟩
  | 14 => ⟨S_, .i32⟩
  | 15 => ⟨S69632, .i32⟩
  | 16 => ⟨S69632, .i1⟩
  | 17 => ⟨S69632, .i1⟩
  | 18 => ⟨S_, .f32⟩
  | 19 => ⟨S_, .f32⟩
  | 20 => ⟨S69632, .f32⟩
  | 21 => ⟨S69632, .f32⟩
  | 22 => ⟨S69632, .f32⟩
  | 23 => ⟨S69632x1, .f32⟩
  | 24 => ⟨S1x1024x3584, .f32⟩
  | 25 => ⟨S1024x3584, .f32⟩
  | 26 => ⟨S1x1024x3584, .f32⟩
  | 27 => ⟨S1024x3584, .f32⟩
  | 28 => ⟨S1x3584x1024, .f32⟩
  | 29 => ⟨S3584x1024, .f32⟩
  | 30 => ⟨S69632x3584, .f32⟩
  | 31 => ⟨S69632x3584, .f32⟩
  | 32 => ⟨S69632x3584, .f32⟩
  | 33 => ⟨S_, .f32⟩
  | 34 => ⟨S69632x3584, .f32⟩
  | 35 => ⟨S69632x3584, .f32⟩
  | 36 => ⟨S_, .f32⟩
  | 37 => ⟨S69632x3584, .f32⟩
  | 38 => ⟨S69632x3584, .f32⟩
  | 39 => ⟨S69632x3584, .f32⟩
  | 40 => ⟨S69632x3584, .f32⟩
  | 41 => ⟨S69632x3584, .f32⟩
  | 42 => ⟨S69632x1024, .f32⟩
  | 43 => ⟨S69632x1, .f32⟩
  | 44 => ⟨S69632x1024, .f32⟩
  | 45 => ⟨S69632x1024, .f32⟩
  | 46 => ⟨S69632x1024, .f32⟩
  | 47 => ⟨S1, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i1⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S69632, .i32⟩
  | 71 => ⟨S69632, .i1⟩
  | 72 => ⟨S1, .i32⟩
  | 73 => ⟨S_, .i32⟩
  | 74 => ⟨S_, .i32⟩
  | 75 => ⟨S69632, .i32⟩
  | 76 => ⟨S69632, .i1⟩
  | 77 => ⟨S69632, .i1⟩
  | 78 => ⟨S_, .f32⟩
  | 79 => ⟨S_, .f32⟩
  | 80 => ⟨S69632, .f32⟩
  | 81 => ⟨S69632, .f32⟩
  | 82 => ⟨S69632, .f32⟩
  | 83 => ⟨S69632x1, .f32⟩
  | 84 => ⟨S1x1024x3584, .f32⟩
  | 85 => ⟨S1024x3584, .f32⟩
  | 86 => ⟨S1x1024x3584, .f32⟩
  | 87 => ⟨S1024x3584, .f32⟩
  | 88 => ⟨S1x3584x1024, .f32⟩
  | 89 => ⟨S3584x1024, .f32⟩
  | 90 => ⟨S69632x3584, .f32⟩
  | 91 => ⟨S69632x3584, .f32⟩
  | 92 => ⟨S69632x3584, .f32⟩
  | 93 => ⟨S_, .f32⟩
  | 94 => ⟨S69632x3584, .f32⟩
  | 95 => ⟨S69632x3584, .f32⟩
  | 96 => ⟨S_, .f32⟩
  | 97 => ⟨S69632x3584, .f32⟩
  | 98 => ⟨S69632x3584, .f32⟩
  | 99 => ⟨S69632x3584, .f32⟩
  | 100 => ⟨S69632x3584, .f32⟩
  | 101 => ⟨S69632x3584, .f32⟩
  | 102 => ⟨S69632x1024, .f32⟩
  | 103 => ⟨S69632x1, .f32⟩
  | 104 => ⟨S69632x1024, .f32⟩
  | 105 => ⟨S69632x1024, .f32⟩
  | 106 => ⟨S69632x1024, .f32⟩
  | 107 => ⟨S1, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i1⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S8, .i32⟩

abbrev hbmTy0_1 (i : Nat) : BufTy := match i % 128 with
  | 0 => ⟨S_, .i32⟩
  | 1 => ⟨S69632, .i32⟩
  | 2 => ⟨S69632, .i1⟩
  | 3 => ⟨S1, .i32⟩
  | 4 => ⟨S_, .i32⟩
  | 5 => ⟨S_, .i32⟩
  | 6 => ⟨S69632, .i32⟩
  | 7 => ⟨S69632, .i1⟩
  | 8 => ⟨S69632, .i1⟩
  | 9 => ⟨S_, .f32⟩
  | 10 => ⟨S_, .f32⟩
  | 11 => ⟨S69632, .f32⟩
  | 12 => ⟨S69632, .f32⟩
  | 13 => ⟨S69632, .f32⟩
  | 14 => ⟨S69632x1, .f32⟩
  | 15 => ⟨S1x1024x3584, .f32⟩
  | 16 => ⟨S1024x3584, .f32⟩
  | 17 => ⟨S1x1024x3584, .f32⟩
  | 18 => ⟨S1024x3584, .f32⟩
  | 19 => ⟨S1x3584x1024, .f32⟩
  | 20 => ⟨S3584x1024, .f32⟩
  | 21 => ⟨S69632x3584, .f32⟩
  | 22 => ⟨S69632x3584, .f32⟩
  | 23 => ⟨S69632x3584, .f32⟩
  | 24 => ⟨S_, .f32⟩
  | 25 => ⟨S69632x3584, .f32⟩
  | 26 => ⟨S69632x3584, .f32⟩
  | 27 => ⟨S_, .f32⟩
  | 28 => ⟨S69632x3584, .f32⟩
  | 29 => ⟨S69632x3584, .f32⟩
  | 30 => ⟨S69632x3584, .f32⟩
  | 31 => ⟨S69632x3584, .f32⟩
  | 32 => ⟨S69632x3584, .f32⟩
  | 33 => ⟨S69632x1024, .f32⟩
  | 34 => ⟨S69632x1, .f32⟩
  | 35 => ⟨S69632x1024, .f32⟩
  | 36 => ⟨S69632x1024, .f32⟩
  | 37 => ⟨S69632x1024, .f32⟩
  | 38 => ⟨S1, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i1⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S69632, .i32⟩
  | 61 => ⟨S69632, .i1⟩
  | 62 => ⟨S1, .i32⟩
  | 63 => ⟨S_, .i32⟩
  | 64 => ⟨S_, .i32⟩
  | 65 => ⟨S69632, .i32⟩
  | 66 => ⟨S69632, .i1⟩
  | 67 => ⟨S69632, .i1⟩
  | 68 => ⟨S_, .f32⟩
  | 69 => ⟨S_, .f32⟩
  | 70 => ⟨S69632, .f32⟩
  | 71 => ⟨S69632, .f32⟩
  | 72 => ⟨S69632, .f32⟩
  | 73 => ⟨S69632x1, .f32⟩
  | 74 => ⟨S1x1024x3584, .f32⟩
  | 75 => ⟨S1024x3584, .f32⟩
  | 76 => ⟨S1x1024x3584, .f32⟩
  | 77 => ⟨S1024x3584, .f32⟩
  | 78 => ⟨S1x3584x1024, .f32⟩
  | 79 => ⟨S3584x1024, .f32⟩
  | 80 => ⟨S69632x3584, .f32⟩
  | 81 => ⟨S69632x3584, .f32⟩
  | 82 => ⟨S69632x3584, .f32⟩
  | 83 => ⟨S_, .f32⟩
  | 84 => ⟨S69632x3584, .f32⟩
  | 85 => ⟨S69632x3584, .f32⟩
  | 86 => ⟨S_, .f32⟩
  | 87 => ⟨S69632x3584, .f32⟩
  | 88 => ⟨S69632x3584, .f32⟩
  | 89 => ⟨S69632x3584, .f32⟩
  | 90 => ⟨S69632x3584, .f32⟩
  | 91 => ⟨S69632x3584, .f32⟩
  | 92 => ⟨S69632x1024, .f32⟩
  | 93 => ⟨S69632x1, .f32⟩
  | 94 => ⟨S69632x1024, .f32⟩
  | 95 => ⟨S69632x1024, .f32⟩
  | 96 => ⟨S69632x1024, .f32⟩
  | 97 => ⟨S1, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S_, .i1⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S69632, .i32⟩
  | 120 => ⟨S69632, .i1⟩
  | 121 => ⟨S1, .i32⟩
  | 122 => ⟨S_, .i32⟩
  | 123 => ⟨S_, .i32⟩
  | 124 => ⟨S69632, .i32⟩
  | 125 => ⟨S69632, .i1⟩
  | 126 => ⟨S69632, .i1⟩
  | 127 => ⟨S_, .f32⟩
  | _ => ⟨S8, .i32⟩

abbrev hbmTy0_2 (i : Nat) : BufTy := match i % 128 with
  | 0 => ⟨S_, .f32⟩
  | 1 => ⟨S69632, .f32⟩
  | 2 => ⟨S69632, .f32⟩
  | 3 => ⟨S69632, .f32⟩
  | 4 => ⟨S69632x1, .f32⟩
  | 5 => ⟨S1x1024x3584, .f32⟩
  | 6 => ⟨S1024x3584, .f32⟩
  | 7 => ⟨S1x1024x3584, .f32⟩
  | 8 => ⟨S1024x3584, .f32⟩
  | 9 => ⟨S1x3584x1024, .f32⟩
  | 10 => ⟨S3584x1024, .f32⟩
  | 11 => ⟨S69632x3584, .f32⟩
  | 12 => ⟨S69632x3584, .f32⟩
  | 13 => ⟨S69632x3584, .f32⟩
  | 14 => ⟨S_, .f32⟩
  | 15 => ⟨S69632x3584, .f32⟩
  | 16 => ⟨S69632x3584, .f32⟩
  | 17 => ⟨S_, .f32⟩
  | 18 => ⟨S69632x3584, .f32⟩
  | 19 => ⟨S69632x3584, .f32⟩
  | 20 => ⟨S69632x3584, .f32⟩
  | 21 => ⟨S69632x3584, .f32⟩
  | 22 => ⟨S69632x3584, .f32⟩
  | 23 => ⟨S69632x1024, .f32⟩
  | 24 => ⟨S69632x1, .f32⟩
  | 25 => ⟨S69632x1024, .f32⟩
  | 26 => ⟨S69632x1024, .f32⟩
  | 27 => ⟨S69632x1024, .f32⟩
  | 28 => ⟨S1, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i1⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S69632, .i32⟩
  | 51 => ⟨S69632, .i1⟩
  | 52 => ⟨S1, .i32⟩
  | 53 => ⟨S_, .i32⟩
  | 54 => ⟨S_, .i32⟩
  | 55 => ⟨S69632, .i32⟩
  | 56 => ⟨S69632, .i1⟩
  | 57 => ⟨S69632, .i1⟩
  | 58 => ⟨S_, .f32⟩
  | 59 => ⟨S_, .f32⟩
  | 60 => ⟨S69632, .f32⟩
  | 61 => ⟨S69632, .f32⟩
  | 62 => ⟨S69632, .f32⟩
  | 63 => ⟨S69632x1, .f32⟩
  | 64 => ⟨S1x1024x3584, .f32⟩
  | 65 => ⟨S1024x3584, .f32⟩
  | 66 => ⟨S1x1024x3584, .f32⟩
  | 67 => ⟨S1024x3584, .f32⟩
  | 68 => ⟨S1x3584x1024, .f32⟩
  | 69 => ⟨S3584x1024, .f32⟩
  | 70 => ⟨S69632x3584, .f32⟩
  | 71 => ⟨S69632x3584, .f32⟩
  | 72 => ⟨S69632x3584, .f32⟩
  | 73 => ⟨S_, .f32⟩
  | 74 => ⟨S69632x3584, .f32⟩
  | 75 => ⟨S69632x3584, .f32⟩
  | 76 => ⟨S_, .f32⟩
  | 77 => ⟨S69632x3584, .f32⟩
  | 78 => ⟨S69632x3584, .f32⟩
  | 79 => ⟨S69632x3584, .f32⟩
  | 80 => ⟨S69632x3584, .f32⟩
  | 81 => ⟨S69632x3584, .f32⟩
  | 82 => ⟨S69632x1024, .f32⟩
  | 83 => ⟨S69632x1, .f32⟩
  | 84 => ⟨S69632x1024, .f32⟩
  | 85 => ⟨S69632x1024, .f32⟩
  | 86 => ⟨S69632x1024, .f32⟩
  | 87 => ⟨S1, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i1⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S69632, .i32⟩
  | 110 => ⟨S69632, .i1⟩
  | 111 => ⟨S1, .i32⟩
  | 112 => ⟨S_, .i32⟩
  | 113 => ⟨S_, .i32⟩
  | 114 => ⟨S69632, .i32⟩
  | 115 => ⟨S69632, .i1⟩
  | 116 => ⟨S69632, .i1⟩
  | 117 => ⟨S_, .f32⟩
  | 118 => ⟨S_, .f32⟩
  | 119 => ⟨S69632, .f32⟩
  | 120 => ⟨S69632, .f32⟩
  | 121 => ⟨S69632, .f32⟩
  | 122 => ⟨S69632x1, .f32⟩
  | 123 => ⟨S1x1024x3584, .f32⟩
  | 124 => ⟨S1024x3584, .f32⟩
  | 125 => ⟨S1x1024x3584, .f32⟩
  | 126 => ⟨S1024x3584, .f32⟩
  | 127 => ⟨S1x3584x1024, .f32⟩
  | _ => ⟨S8, .i32⟩

abbrev hbmTy0_3 (i : Nat) : BufTy := match i % 128 with
  | 0 => ⟨S3584x1024, .f32⟩
  | 1 => ⟨S69632x3584, .f32⟩
  | 2 => ⟨S69632x3584, .f32⟩
  | 3 => ⟨S69632x3584, .f32⟩
  | 4 => ⟨S_, .f32⟩
  | 5 => ⟨S69632x3584, .f32⟩
  | 6 => ⟨S69632x3584, .f32⟩
  | 7 => ⟨S_, .f32⟩
  | 8 => ⟨S69632x3584, .f32⟩
  | 9 => ⟨S69632x3584, .f32⟩
  | 10 => ⟨S69632x3584, .f32⟩
  | 11 => ⟨S69632x3584, .f32⟩
  | 12 => ⟨S69632x3584, .f32⟩
  | 13 => ⟨S69632x1024, .f32⟩
  | 14 => ⟨S69632x1, .f32⟩
  | 15 => ⟨S69632x1024, .f32⟩
  | 16 => ⟨S69632x1024, .f32⟩
  | 17 => ⟨S69632x1024, .f32⟩
  | 18 => ⟨S1, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i1⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S69632, .i32⟩
  | 41 => ⟨S69632, .i1⟩
  | 42 => ⟨S1, .i32⟩
  | 43 => ⟨S_, .i32⟩
  | 44 => ⟨S_, .i32⟩
  | 45 => ⟨S69632, .i32⟩
  | 46 => ⟨S69632, .i1⟩
  | 47 => ⟨S69632, .i1⟩
  | 48 => ⟨S_, .f32⟩
  | 49 => ⟨S_, .f32⟩
  | 50 => ⟨S69632, .f32⟩
  | 51 => ⟨S69632, .f32⟩
  | 52 => ⟨S69632, .f32⟩
  | 53 => ⟨S69632x1, .f32⟩
  | 54 => ⟨S1x1024x3584, .f32⟩
  | 55 => ⟨S1024x3584, .f32⟩
  | 56 => ⟨S1x1024x3584, .f32⟩
  | 57 => ⟨S1024x3584, .f32⟩
  | 58 => ⟨S1x3584x1024, .f32⟩
  | 59 => ⟨S3584x1024, .f32⟩
  | 60 => ⟨S69632x3584, .f32⟩
  | 61 => ⟨S69632x3584, .f32⟩
  | 62 => ⟨S69632x3584, .f32⟩
  | 63 => ⟨S_, .f32⟩
  | 64 => ⟨S69632x3584, .f32⟩
  | 65 => ⟨S69632x3584, .f32⟩
  | 66 => ⟨S_, .f32⟩
  | 67 => ⟨S69632x3584, .f32⟩
  | 68 => ⟨S69632x3584, .f32⟩
  | 69 => ⟨S69632x3584, .f32⟩
  | 70 => ⟨S69632x3584, .f32⟩
  | 71 => ⟨S69632x3584, .f32⟩
  | 72 => ⟨S69632x1024, .f32⟩
  | 73 => ⟨S69632x1, .f32⟩
  | 74 => ⟨S69632x1024, .f32⟩
  | 75 => ⟨S69632x1024, .f32⟩
  | 76 => ⟨S69632x1024, .f32⟩
  | 77 => ⟨S1, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i1⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | _ => ⟨S8, .i32⟩

abbrev hbmTy (i : Nat) : BufTy := match i / 128 with
  | 0 => hbmTy0_0 i
  | 1 => hbmTy0_1 i
  | 2 => hbmTy0_2 i
  | 3 => hbmTy0_3 i
  | _ => ⟨S8, .i32⟩

abbrev bufTy : (tb : Table) → Fin (tcTables nBuf tb) → BufTy
  | .hbm, ⟨i, _⟩ => hbmTy i
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_3 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_c_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c : Ref sig .tc := ⟨.hbm, 60, rfl⟩
abbrev main_call2_v6 : Ref sig .tc := ⟨.hbm, 61, rfl⟩
abbrev main_call2_v7 : Ref sig .tc := ⟨.hbm, 62, rfl⟩
abbrev main_call2_c_0 : Ref sig .tc := ⟨.hbm, 63, rfl⟩
abbrev main_call2_v8 : Ref sig .tc := ⟨.hbm, 64, rfl⟩
abbrev main_v31 : Ref sig .tc := ⟨.hbm, 65, rfl⟩
abbrev main_c_6 : Ref sig .tc := ⟨.hbm, 66, rfl⟩
abbrev main_v32 : Ref sig .tc := ⟨.hbm, 67, rfl⟩
abbrev main_c_7 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_8 : Ref sig .tc := ⟨.hbm, 78, rfl⟩
abbrev main_cst_9 : Ref sig .tc := ⟨.hbm, 79, rfl⟩
abbrev main_call3_v0 : Ref sig .tc := ⟨.hbm, 80, rfl⟩
abbrev main_call3_v1 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call4_v0 : Ref sig .tc := ⟨.hbm, 91, rfl⟩
abbrev main_call4_v1 : Ref sig .tc := ⟨.hbm, 92, rfl⟩
abbrev main_call4_cst : Ref sig .tc := ⟨.hbm, 93, rfl⟩
abbrev main_call4_v2 : Ref sig .tc := ⟨.hbm, 94, rfl⟩
abbrev main_call4_v3 : Ref sig .tc := ⟨.hbm, 95, rfl⟩
abbrev main_call4_cst_0 : Ref sig .tc := ⟨.hbm, 96, rfl⟩
abbrev main_call4_v4 : Ref sig .tc := ⟨.hbm, 97, rfl⟩
abbrev main_call4_v5 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_c_10 : Ref sig .tc := ⟨.hbm, 109, rfl⟩
abbrev main_v61 : Ref sig .tc := ⟨.hbm, 110, rfl⟩
abbrev main_c_11 : Ref sig .tc := ⟨.hbm, 111, rfl⟩
abbrev main_v62 : Ref sig .tc := ⟨.hbm, 112, rfl⟩
abbrev main_c_12 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_v5 : Ref sig .tc := ⟨.hbm, 119, rfl⟩
abbrev main_call5_c : Ref sig .tc := ⟨.hbm, 120, rfl⟩
abbrev main_call5_v6 : Ref sig .tc := ⟨.hbm, 121, rfl⟩
abbrev main_call5_v7 : Ref sig .tc := ⟨.hbm, 122, rfl⟩
abbrev main_call5_c_0 : Ref sig .tc := ⟨.hbm, 123, rfl⟩
abbrev main_call5_v8 : Ref sig .tc := ⟨.hbm, 124, rfl⟩
abbrev main_v63 : Ref sig .tc := ⟨.hbm, 125, rfl⟩
abbrev main_c_13 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_cst_14 : Ref sig .tc := ⟨.hbm, 137, rfl⟩
abbrev main_cst_15 : Ref sig .tc := ⟨.hbm, 138, rfl⟩
abbrev main_call6_v0 : Ref sig .tc := ⟨.hbm, 139, rfl⟩
abbrev main_call6_v1 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_call7_v0 : Ref sig .tc := ⟨.hbm, 150, rfl⟩
abbrev main_call7_v1 : Ref sig .tc := ⟨.hbm, 151, rfl⟩
abbrev main_call7_cst : Ref sig .tc := ⟨.hbm, 152, rfl⟩
abbrev main_call7_v2 : Ref sig .tc := ⟨.hbm, 153, rfl⟩
abbrev main_call7_v3 : Ref sig .tc := ⟨.hbm, 154, rfl⟩
abbrev main_call7_cst_0 : Ref sig .tc := ⟨.hbm, 155, rfl⟩
abbrev main_call7_v4 : Ref sig .tc := ⟨.hbm, 156, rfl⟩
abbrev main_call7_v5 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_c_16 : Ref sig .tc := ⟨.hbm, 168, rfl⟩
abbrev main_v93 : Ref sig .tc := ⟨.hbm, 169, rfl⟩
abbrev main_c_17 : Ref sig .tc := ⟨.hbm, 170, rfl⟩
abbrev main_v94 : Ref sig .tc := ⟨.hbm, 171, rfl⟩
abbrev main_c_18 : Ref sig .tc := ⟨.hbm, 172, rfl⟩
abbrev main_call8_v0 : Ref sig .tc := ⟨.hbm, 173, rfl⟩
abbrev main_call8_v1 : Ref sig .tc := ⟨.hbm, 174, rfl⟩
abbrev main_call8_v2 : Ref sig .tc := ⟨.hbm, 175, rfl⟩
abbrev main_call8_v3 : Ref sig .tc := ⟨.hbm, 176, rfl⟩
abbrev main_call8_v4 : Ref sig .tc := ⟨.hbm, 177, rfl⟩
abbrev main_call8_v5 : Ref sig .tc := ⟨.hbm, 178, rfl⟩
abbrev main_call8_c : Ref sig .tc := ⟨.hbm, 179, rfl⟩
abbrev main_call8_v6 : Ref sig .tc := ⟨.hbm, 180, rfl⟩
abbrev main_call8_v7 : Ref sig .tc := ⟨.hbm, 181, rfl⟩
abbrev main_call8_c_0 : Ref sig .tc := ⟨.hbm, 182, rfl⟩
abbrev main_call8_v8 : Ref sig .tc := ⟨.hbm, 183, rfl⟩
abbrev main_v95 : Ref sig .tc := ⟨.hbm, 184, rfl⟩
abbrev main_c_19 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_cst_20 : Ref sig .tc := ⟨.hbm, 196, rfl⟩
abbrev main_cst_21 : Ref sig .tc := ⟨.hbm, 197, rfl⟩
abbrev main_call9_v0 : Ref sig .tc := ⟨.hbm, 198, rfl⟩
abbrev main_call9_v1 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_call10_v0 : Ref sig .tc := ⟨.hbm, 209, rfl⟩
abbrev main_call10_v1 : Ref sig .tc := ⟨.hbm, 210, rfl⟩
abbrev main_call10_cst : Ref sig .tc := ⟨.hbm, 211, rfl⟩
abbrev main_call10_v2 : Ref sig .tc := ⟨.hbm, 212, rfl⟩
abbrev main_call10_v3 : Ref sig .tc := ⟨.hbm, 213, rfl⟩
abbrev main_call10_cst_0 : Ref sig .tc := ⟨.hbm, 214, rfl⟩
abbrev main_call10_v4 : Ref sig .tc := ⟨.hbm, 215, rfl⟩
abbrev main_call10_v5 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩
abbrev main_v118 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_c_22 : Ref sig .tc := ⟨.hbm, 227, rfl⟩
abbrev main_v125 : Ref sig .tc := ⟨.hbm, 228, rfl⟩
abbrev main_c_23 : Ref sig .tc := ⟨.hbm, 229, rfl⟩
abbrev main_v126 : Ref sig .tc := ⟨.hbm, 230, rfl⟩
abbrev main_c_24 : Ref sig .tc := ⟨.hbm, 231, rfl⟩
abbrev main_call11_v0 : Ref sig .tc := ⟨.hbm, 232, rfl⟩
abbrev main_call11_v1 : Ref sig .tc := ⟨.hbm, 233, rfl⟩
abbrev main_call11_v2 : Ref sig .tc := ⟨.hbm, 234, rfl⟩
abbrev main_call11_v3 : Ref sig .tc := ⟨.hbm, 235, rfl⟩
abbrev main_call11_v4 : Ref sig .tc := ⟨.hbm, 236, rfl⟩
abbrev main_call11_v5 : Ref sig .tc := ⟨.hbm, 237, rfl⟩
abbrev main_call11_c : Ref sig .tc := ⟨.hbm, 238, rfl⟩
abbrev main_call11_v6 : Ref sig .tc := ⟨.hbm, 239, rfl⟩
abbrev main_call11_v7 : Ref sig .tc := ⟨.hbm, 240, rfl⟩
abbrev main_call11_c_0 : Ref sig .tc := ⟨.hbm, 241, rfl⟩
abbrev main_call11_v8 : Ref sig .tc := ⟨.hbm, 242, rfl⟩
abbrev main_v127 : Ref sig .tc := ⟨.hbm, 243, rfl⟩
abbrev main_c_25 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_v133 : Ref sig .tc := ⟨.hbm, 250, rfl⟩
abbrev main_v134 : Ref sig .tc := ⟨.hbm, 251, rfl⟩
abbrev main_v135 : Ref sig .tc := ⟨.hbm, 252, rfl⟩
abbrev main_v136 : Ref sig .tc := ⟨.hbm, 253, rfl⟩
abbrev main_v137 : Ref sig .tc := ⟨.hbm, 254, rfl⟩
abbrev main_cst_26 : Ref sig .tc := ⟨.hbm, 255, rfl⟩
abbrev main_cst_27 : Ref sig .tc := ⟨.hbm, 256, rfl⟩
abbrev main_call12_v0 : Ref sig .tc := ⟨.hbm, 257, rfl⟩
abbrev main_call12_v1 : Ref sig .tc := ⟨.hbm, 258, rfl⟩
abbrev main_v138 : Ref sig .tc := ⟨.hbm, 259, rfl⟩
abbrev main_v139 : Ref sig .tc := ⟨.hbm, 260, rfl⟩
abbrev main_v140 : Ref sig .tc := ⟨.hbm, 261, rfl⟩
abbrev main_v141 : Ref sig .tc := ⟨.hbm, 262, rfl⟩
abbrev main_v142 : Ref sig .tc := ⟨.hbm, 263, rfl⟩
abbrev main_v143 : Ref sig .tc := ⟨.hbm, 264, rfl⟩
abbrev main_v144 : Ref sig .tc := ⟨.hbm, 265, rfl⟩
abbrev main_v145 : Ref sig .tc := ⟨.hbm, 266, rfl⟩
abbrev main_v146 : Ref sig .tc := ⟨.hbm, 267, rfl⟩
abbrev main_call13_v0 : Ref sig .tc := ⟨.hbm, 268, rfl⟩
abbrev main_call13_v1 : Ref sig .tc := ⟨.hbm, 269, rfl⟩
abbrev main_call13_cst : Ref sig .tc := ⟨.hbm, 270, rfl⟩
abbrev main_call13_v2 : Ref sig .tc := ⟨.hbm, 271, rfl⟩
abbrev main_call13_v3 : Ref sig .tc := ⟨.hbm, 272, rfl⟩
abbrev main_call13_cst_0 : Ref sig .tc := ⟨.hbm, 273, rfl⟩
abbrev main_call13_v4 : Ref sig .tc := ⟨.hbm, 274, rfl⟩
abbrev main_call13_v5 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_v153 : Ref sig .tc := ⟨.hbm, 282, rfl⟩
abbrev main_v154 : Ref sig .tc := ⟨.hbm, 283, rfl⟩
abbrev main_v155 : Ref sig .tc := ⟨.hbm, 284, rfl⟩
abbrev main_v156 : Ref sig .tc := ⟨.hbm, 285, rfl⟩
abbrev main_c_28 : Ref sig .tc := ⟨.hbm, 286, rfl⟩
abbrev main_v157 : Ref sig .tc := ⟨.hbm, 287, rfl⟩
abbrev main_c_29 : Ref sig .tc := ⟨.hbm, 288, rfl⟩
abbrev main_v158 : Ref sig .tc := ⟨.hbm, 289, rfl⟩
abbrev main_c_30 : Ref sig .tc := ⟨.hbm, 290, rfl⟩
abbrev main_call14_v0 : Ref sig .tc := ⟨.hbm, 291, rfl⟩
abbrev main_call14_v1 : Ref sig .tc := ⟨.hbm, 292, rfl⟩
abbrev main_call14_v2 : Ref sig .tc := ⟨.hbm, 293, rfl⟩
abbrev main_call14_v3 : Ref sig .tc := ⟨.hbm, 294, rfl⟩
abbrev main_call14_v4 : Ref sig .tc := ⟨.hbm, 295, rfl⟩
abbrev main_call14_v5 : Ref sig .tc := ⟨.hbm, 296, rfl⟩
abbrev main_call14_c : Ref sig .tc := ⟨.hbm, 297, rfl⟩
abbrev main_call14_v6 : Ref sig .tc := ⟨.hbm, 298, rfl⟩
abbrev main_call14_v7 : Ref sig .tc := ⟨.hbm, 299, rfl⟩
abbrev main_call14_c_0 : Ref sig .tc := ⟨.hbm, 300, rfl⟩
abbrev main_call14_v8 : Ref sig .tc := ⟨.hbm, 301, rfl⟩
abbrev main_v159 : Ref sig .tc := ⟨.hbm, 302, rfl⟩
abbrev main_c_31 : Ref sig .tc := ⟨.hbm, 303, rfl⟩
abbrev main_v160 : Ref sig .tc := ⟨.hbm, 304, rfl⟩
abbrev main_v161 : Ref sig .tc := ⟨.hbm, 305, rfl⟩
abbrev main_v162 : Ref sig .tc := ⟨.hbm, 306, rfl⟩
abbrev main_v163 : Ref sig .tc := ⟨.hbm, 307, rfl⟩
abbrev main_v164 : Ref sig .tc := ⟨.hbm, 308, rfl⟩
abbrev main_v165 : Ref sig .tc := ⟨.hbm, 309, rfl⟩
abbrev main_v166 : Ref sig .tc := ⟨.hbm, 310, rfl⟩
abbrev main_v167 : Ref sig .tc := ⟨.hbm, 311, rfl⟩
abbrev main_v168 : Ref sig .tc := ⟨.hbm, 312, rfl⟩
abbrev main_v169 : Ref sig .tc := ⟨.hbm, 313, rfl⟩
abbrev main_cst_32 : Ref sig .tc := ⟨.hbm, 314, rfl⟩
abbrev main_cst_33 : Ref sig .tc := ⟨.hbm, 315, rfl⟩
abbrev main_call15_v0 : Ref sig .tc := ⟨.hbm, 316, rfl⟩
abbrev main_call15_v1 : Ref sig .tc := ⟨.hbm, 317, rfl⟩
abbrev main_v170 : Ref sig .tc := ⟨.hbm, 318, rfl⟩
abbrev main_v171 : Ref sig .tc := ⟨.hbm, 319, rfl⟩
abbrev main_v172 : Ref sig .tc := ⟨.hbm, 320, rfl⟩
abbrev main_v173 : Ref sig .tc := ⟨.hbm, 321, rfl⟩
abbrev main_v174 : Ref sig .tc := ⟨.hbm, 322, rfl⟩
abbrev main_v175 : Ref sig .tc := ⟨.hbm, 323, rfl⟩
abbrev main_v176 : Ref sig .tc := ⟨.hbm, 324, rfl⟩
abbrev main_v177 : Ref sig .tc := ⟨.hbm, 325, rfl⟩
abbrev main_v178 : Ref sig .tc := ⟨.hbm, 326, rfl⟩
abbrev main_call16_v0 : Ref sig .tc := ⟨.hbm, 327, rfl⟩
abbrev main_call16_v1 : Ref sig .tc := ⟨.hbm, 328, rfl⟩
abbrev main_call16_cst : Ref sig .tc := ⟨.hbm, 329, rfl⟩
abbrev main_call16_v2 : Ref sig .tc := ⟨.hbm, 330, rfl⟩
abbrev main_call16_v3 : Ref sig .tc := ⟨.hbm, 331, rfl⟩
abbrev main_call16_cst_0 : Ref sig .tc := ⟨.hbm, 332, rfl⟩
abbrev main_call16_v4 : Ref sig .tc := ⟨.hbm, 333, rfl⟩
abbrev main_call16_v5 : Ref sig .tc := ⟨.hbm, 334, rfl⟩
abbrev main_v179 : Ref sig .tc := ⟨.hbm, 335, rfl⟩
abbrev main_v180 : Ref sig .tc := ⟨.hbm, 336, rfl⟩
abbrev main_v181 : Ref sig .tc := ⟨.hbm, 337, rfl⟩
abbrev main_v182 : Ref sig .tc := ⟨.hbm, 338, rfl⟩
abbrev main_v183 : Ref sig .tc := ⟨.hbm, 339, rfl⟩
abbrev main_v184 : Ref sig .tc := ⟨.hbm, 340, rfl⟩
abbrev main_v185 : Ref sig .tc := ⟨.hbm, 341, rfl⟩
abbrev main_v186 : Ref sig .tc := ⟨.hbm, 342, rfl⟩
abbrev main_v187 : Ref sig .tc := ⟨.hbm, 343, rfl⟩
abbrev main_v188 : Ref sig .tc := ⟨.hbm, 344, rfl⟩
abbrev main_c_34 : Ref sig .tc := ⟨.hbm, 345, rfl⟩
abbrev main_v189 : Ref sig .tc := ⟨.hbm, 346, rfl⟩
abbrev main_c_35 : Ref sig .tc := ⟨.hbm, 347, rfl⟩
abbrev main_v190 : Ref sig .tc := ⟨.hbm, 348, rfl⟩
abbrev main_c_36 : Ref sig .tc := ⟨.hbm, 349, rfl⟩
abbrev main_call17_v0 : Ref sig .tc := ⟨.hbm, 350, rfl⟩
abbrev main_call17_v1 : Ref sig .tc := ⟨.hbm, 351, rfl⟩
abbrev main_call17_v2 : Ref sig .tc := ⟨.hbm, 352, rfl⟩
abbrev main_call17_v3 : Ref sig .tc := ⟨.hbm, 353, rfl⟩
abbrev main_call17_v4 : Ref sig .tc := ⟨.hbm, 354, rfl⟩
abbrev main_call17_v5 : Ref sig .tc := ⟨.hbm, 355, rfl⟩
abbrev main_call17_c : Ref sig .tc := ⟨.hbm, 356, rfl⟩
abbrev main_call17_v6 : Ref sig .tc := ⟨.hbm, 357, rfl⟩
abbrev main_call17_v7 : Ref sig .tc := ⟨.hbm, 358, rfl⟩
abbrev main_call17_c_0 : Ref sig .tc := ⟨.hbm, 359, rfl⟩
abbrev main_call17_v8 : Ref sig .tc := ⟨.hbm, 360, rfl⟩
abbrev main_v191 : Ref sig .tc := ⟨.hbm, 361, rfl⟩
abbrev main_c_37 : Ref sig .tc := ⟨.hbm, 362, rfl⟩
abbrev main_v192 : Ref sig .tc := ⟨.hbm, 363, rfl⟩
abbrev main_v193 : Ref sig .tc := ⟨.hbm, 364, rfl⟩
abbrev main_v194 : Ref sig .tc := ⟨.hbm, 365, rfl⟩
abbrev main_v195 : Ref sig .tc := ⟨.hbm, 366, rfl⟩
abbrev main_v196 : Ref sig .tc := ⟨.hbm, 367, rfl⟩
abbrev main_v197 : Ref sig .tc := ⟨.hbm, 368, rfl⟩
abbrev main_v198 : Ref sig .tc := ⟨.hbm, 369, rfl⟩
abbrev main_v199 : Ref sig .tc := ⟨.hbm, 370, rfl⟩
abbrev main_v200 : Ref sig .tc := ⟨.hbm, 371, rfl⟩
abbrev main_v201 : Ref sig .tc := ⟨.hbm, 372, rfl⟩
abbrev main_cst_38 : Ref sig .tc := ⟨.hbm, 373, rfl⟩
abbrev main_cst_39 : Ref sig .tc := ⟨.hbm, 374, rfl⟩
abbrev main_call18_v0 : Ref sig .tc := ⟨.hbm, 375, rfl⟩
abbrev main_call18_v1 : Ref sig .tc := ⟨.hbm, 376, rfl⟩
abbrev main_v202 : Ref sig .tc := ⟨.hbm, 377, rfl⟩
abbrev main_v203 : Ref sig .tc := ⟨.hbm, 378, rfl⟩
abbrev main_v204 : Ref sig .tc := ⟨.hbm, 379, rfl⟩
abbrev main_v205 : Ref sig .tc := ⟨.hbm, 380, rfl⟩
abbrev main_v206 : Ref sig .tc := ⟨.hbm, 381, rfl⟩
abbrev main_v207 : Ref sig .tc := ⟨.hbm, 382, rfl⟩
abbrev main_v208 : Ref sig .tc := ⟨.hbm, 383, rfl⟩
abbrev main_v209 : Ref sig .tc := ⟨.hbm, 384, rfl⟩
abbrev main_v210 : Ref sig .tc := ⟨.hbm, 385, rfl⟩
abbrev main_call19_v0 : Ref sig .tc := ⟨.hbm, 386, rfl⟩
abbrev main_call19_v1 : Ref sig .tc := ⟨.hbm, 387, rfl⟩
abbrev main_call19_cst : Ref sig .tc := ⟨.hbm, 388, rfl⟩
abbrev main_call19_v2 : Ref sig .tc := ⟨.hbm, 389, rfl⟩
abbrev main_call19_v3 : Ref sig .tc := ⟨.hbm, 390, rfl⟩
abbrev main_call19_cst_0 : Ref sig .tc := ⟨.hbm, 391, rfl⟩
abbrev main_call19_v4 : Ref sig .tc := ⟨.hbm, 392, rfl⟩
abbrev main_call19_v5 : Ref sig .tc := ⟨.hbm, 393, rfl⟩
abbrev main_v211 : Ref sig .tc := ⟨.hbm, 394, rfl⟩
abbrev main_v212 : Ref sig .tc := ⟨.hbm, 395, rfl⟩
abbrev main_v213 : Ref sig .tc := ⟨.hbm, 396, rfl⟩
abbrev main_v214 : Ref sig .tc := ⟨.hbm, 397, rfl⟩
abbrev main_v215 : Ref sig .tc := ⟨.hbm, 398, rfl⟩
abbrev main_v216 : Ref sig .tc := ⟨.hbm, 399, rfl⟩
abbrev main_v217 : Ref sig .tc := ⟨.hbm, 400, rfl⟩
abbrev main_v218 : Ref sig .tc := ⟨.hbm, 401, rfl⟩
abbrev main_v219 : Ref sig .tc := ⟨.hbm, 402, rfl⟩
abbrev main_v220 : Ref sig .tc := ⟨.hbm, 403, rfl⟩
abbrev main_c_40 : Ref sig .tc := ⟨.hbm, 404, rfl⟩
abbrev main_v221 : Ref sig .tc := ⟨.hbm, 405, rfl⟩
abbrev main_c_41 : Ref sig .tc := ⟨.hbm, 406, rfl⟩
abbrev main_v222 : Ref sig .tc := ⟨.hbm, 407, rfl⟩
abbrev main_c_42 : Ref sig .tc := ⟨.hbm, 408, rfl⟩
abbrev main_call20_v0 : Ref sig .tc := ⟨.hbm, 409, rfl⟩
abbrev main_call20_v1 : Ref sig .tc := ⟨.hbm, 410, rfl⟩
abbrev main_call20_v2 : Ref sig .tc := ⟨.hbm, 411, rfl⟩
abbrev main_call20_v3 : Ref sig .tc := ⟨.hbm, 412, rfl⟩
abbrev main_call20_v4 : Ref sig .tc := ⟨.hbm, 413, rfl⟩
abbrev main_call20_v5 : Ref sig .tc := ⟨.hbm, 414, rfl⟩
abbrev main_call20_c : Ref sig .tc := ⟨.hbm, 415, rfl⟩
abbrev main_call20_v6 : Ref sig .tc := ⟨.hbm, 416, rfl⟩
abbrev main_call20_v7 : Ref sig .tc := ⟨.hbm, 417, rfl⟩
abbrev main_call20_c_0 : Ref sig .tc := ⟨.hbm, 418, rfl⟩
abbrev main_call20_v8 : Ref sig .tc := ⟨.hbm, 419, rfl⟩
abbrev main_v223 : Ref sig .tc := ⟨.hbm, 420, rfl⟩
abbrev main_c_43 : Ref sig .tc := ⟨.hbm, 421, rfl⟩
abbrev main_v224 : Ref sig .tc := ⟨.hbm, 422, rfl⟩
abbrev main_v225 : Ref sig .tc := ⟨.hbm, 423, rfl⟩
abbrev main_v226 : Ref sig .tc := ⟨.hbm, 424, rfl⟩
abbrev main_v227 : Ref sig .tc := ⟨.hbm, 425, rfl⟩
abbrev main_v228 : Ref sig .tc := ⟨.hbm, 426, rfl⟩
abbrev main_v229 : Ref sig .tc := ⟨.hbm, 427, rfl⟩
abbrev main_v230 : Ref sig .tc := ⟨.hbm, 428, rfl⟩
abbrev main_v231 : Ref sig .tc := ⟨.hbm, 429, rfl⟩
abbrev main_v232 : Ref sig .tc := ⟨.hbm, 430, rfl⟩
abbrev main_v233 : Ref sig .tc := ⟨.hbm, 431, rfl⟩
abbrev main_cst_44 : Ref sig .tc := ⟨.hbm, 432, rfl⟩
abbrev main_cst_45 : Ref sig .tc := ⟨.hbm, 433, rfl⟩
abbrev main_call21_v0 : Ref sig .tc := ⟨.hbm, 434, rfl⟩
abbrev main_call21_v1 : Ref sig .tc := ⟨.hbm, 435, rfl⟩
abbrev main_v234 : Ref sig .tc := ⟨.hbm, 436, rfl⟩
abbrev main_v235 : Ref sig .tc := ⟨.hbm, 437, rfl⟩
abbrev main_v236 : Ref sig .tc := ⟨.hbm, 438, rfl⟩
abbrev main_v237 : Ref sig .tc := ⟨.hbm, 439, rfl⟩
abbrev main_v238 : Ref sig .tc := ⟨.hbm, 440, rfl⟩
abbrev main_v239 : Ref sig .tc := ⟨.hbm, 441, rfl⟩
abbrev main_v240 : Ref sig .tc := ⟨.hbm, 442, rfl⟩
abbrev main_v241 : Ref sig .tc := ⟨.hbm, 443, rfl⟩
abbrev main_v242 : Ref sig .tc := ⟨.hbm, 444, rfl⟩
abbrev main_call22_v0 : Ref sig .tc := ⟨.hbm, 445, rfl⟩
abbrev main_call22_v1 : Ref sig .tc := ⟨.hbm, 446, rfl⟩
abbrev main_call22_cst : Ref sig .tc := ⟨.hbm, 447, rfl⟩
abbrev main_call22_v2 : Ref sig .tc := ⟨.hbm, 448, rfl⟩
abbrev main_call22_v3 : Ref sig .tc := ⟨.hbm, 449, rfl⟩
abbrev main_call22_cst_0 : Ref sig .tc := ⟨.hbm, 450, rfl⟩
abbrev main_call22_v4 : Ref sig .tc := ⟨.hbm, 451, rfl⟩
abbrev main_call22_v5 : Ref sig .tc := ⟨.hbm, 452, rfl⟩
abbrev main_v243 : Ref sig .tc := ⟨.hbm, 453, rfl⟩
abbrev main_v244 : Ref sig .tc := ⟨.hbm, 454, rfl⟩
abbrev main_v245 : Ref sig .tc := ⟨.hbm, 455, rfl⟩
abbrev main_v246 : Ref sig .tc := ⟨.hbm, 456, rfl⟩
abbrev main_v247 : Ref sig .tc := ⟨.hbm, 457, rfl⟩
abbrev main_v248 : Ref sig .tc := ⟨.hbm, 458, rfl⟩
abbrev main_v249 : Ref sig .tc := ⟨.hbm, 459, rfl⟩
abbrev main_v250 : Ref sig .tc := ⟨.hbm, 460, rfl⟩
abbrev main_v251 : Ref sig .tc := ⟨.hbm, 461, rfl⟩
abbrev main_v252 : Ref sig .tc := ⟨.hbm, 462, rfl⟩
abbrev main_c_46 : Ref sig .tc := ⟨.hbm, 463, rfl⟩
abbrev main_v253 : Ref sig .tc := ⟨.hbm, 464, rfl⟩
abbrev main_c_47 : Ref sig .tc := ⟨.hbm, 465, rfl⟩
abbrev main_v254 : Ref sig .tc := ⟨.hbm, 466, rfl⟩
abbrev main_c_48 : Ref sig .tc := ⟨.hbm, 467, rfl⟩
abbrev main_call23_v0 : Ref sig .tc := ⟨.hbm, 468, rfl⟩
abbrev main_call23_v1 : Ref sig .tc := ⟨.hbm, 469, rfl⟩
abbrev main_call23_v2 : Ref sig .tc := ⟨.hbm, 470, rfl⟩
abbrev main_call23_v3 : Ref sig .tc := ⟨.hbm, 471, rfl⟩
abbrev main_call23_v4 : Ref sig .tc := ⟨.hbm, 472, rfl⟩
abbrev main_call23_v5 : Ref sig .tc := ⟨.hbm, 473, rfl⟩
abbrev main_call23_c : Ref sig .tc := ⟨.hbm, 474, rfl⟩
abbrev main_call23_v6 : Ref sig .tc := ⟨.hbm, 475, rfl⟩
abbrev main_call23_v7 : Ref sig .tc := ⟨.hbm, 476, rfl⟩
abbrev main_call23_c_0 : Ref sig .tc := ⟨.hbm, 477, rfl⟩
abbrev main_call23_v8 : Ref sig .tc := ⟨.hbm, 478, rfl⟩
abbrev main_v255 : Ref sig .tc := ⟨.hbm, 479, rfl⟩
abbrev main_c_49 : Ref sig .tc := ⟨.hbm, 480, rfl⟩
abbrev main_v256 : Ref sig .tc := ⟨.hbm, 481, rfl⟩
abbrev main_v257 : Ref sig .tc := ⟨.hbm, 482, rfl⟩

abbrev nD : Nat := 1
abbrev τ : Topo := Topo.v7x

variable {F : FTy → Type} [FloatOps F]
-- ==== Proof.ERuns.lean ====
/-
  The experts' call: its host prefix, its windows' schedules and blocks, its tables and its two branch conditions.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 3 (%arg3)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents
/-- Window 4 (result 0 (%3)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_v20) (Memref.isWhole_whole _) (Memref.whole main_v37) (Memref.isWhole_whole _) (Memref.whole main_v39) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

variable (m : (ℓ : Loc nD τ sig) → Buf (Elt F) ℓ) (ρ : Dev nD → PrngReg)
/-! ## @main up to the region -/

/-- Core `c`'s TensorCore buffers when the region is entered: after the nine stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the stretches of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S136 .i32 := Memref.whole main_v20
abbrev htbM0_0 : tbM0_0.IsWhole := Memref.isWhole_whole _
abbrev tbM0_1 : Memref sig .tc .smem S136 .i32 := Memref.whole main_v37
abbrev htbM0_1 : tbM0_1.IsWhole := Memref.isWhole_whole _
abbrev tbM0_2 : Memref sig .tc .smem S1 .i32 := Memref.whole main_v39
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The body's branch conditions -/

/-- The condition of the body's `scf.if` 0: over WORDS the body reads from its tables or input SMEM windows
    (`v2`), so no function of the point — a case variable: a hypothesis of each run, a `by_cases`
    of the obligation and an `if` of `outsAt`, stated over the argument blocks' words there. -/
abbrev cond0_0 (i : grid0.Coords) (v2 : BitVec 32) : Prop := (Scalar.cmpi .ne (Scalar.extui (Scalar.cmpi .slt (BitVec.ofNat 32 (i 0).val) v2)) 0#32) = 1#1

/-- The condition of the second branch, over the same word. -/
abbrev cond0_1 (i : grid0.Coords) (v2 : BitVec 32) : Prop := (Scalar.cmpi .ne (Scalar.extui (Scalar.cmpi .sge (BitVec.ofNat 32 (i 0).val) v2)) 0#32) = 1#1

/-- Exactly one of the two branches is taken. -/
theorem cond0_1_iff (i : grid0.Coords) (v2 : BitVec 32) : cond0_1 i v2 ↔ ¬cond0_0 i v2 := by
  unfold cond0_1 cond0_0
  generalize BitVec.ofNat 32 (i 0).val = x
  have e : (Scalar.cmpi .sge x v2) = ~~~(Scalar.cmpi .slt x v2) := by
    show BitVec.ofBool (v2.sle x) = ~~~BitVec.ofBool (x.slt v2)
    rw [BitVec.sle_eq_not_slt]
    cases x.slt v2 <;> rfl
  rw [e]
  generalize Scalar.cmpi .slt x v2 = y
  revert y
  decide

/-! ## The kernel body on any staging memrefs: a subtype the run finds -/

/-- One staging buffer of output window 4, through which its contents are stated (`View.read_writes_of_cover`: the
    choice does not matter). -/
abbrev VO0_4 : View sig .tc .vmem S512x1024 .f32 := (Memref.whole cc0_stg4_0 : Memref sig .tc .vmem S512x1024 .f32).view
/-- Each window's current staging memref at point `t`, spelled as the pipeline passes it (`bodyAt0`), and its wholeness. -/
abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x3584 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x3584 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x3584x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .f32 := spec0_4.stage ((cfgM m hO).slots t 4)
abbrev hs0_4 (hO : Ok m) (t : Fin (cfgM m hO).N) : (ms0_4 m hO t).IsWhole := hstage0_4 (((cfgM m hO).slots t 4).cast nbuf0_4)

end Cert.Kernel2Ideal.Gen

end
-- ==== Proof.ERunA.lean ====
/-
  The experts' call: its body where the first branch is taken.
-/
module

public import proofs.«01_k».proof.Proof.ERuns

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points all), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg4 : Memref sig .tc .vmem S512x1024 .f32) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x1024 .f32) (harg8 : arg8.IsWhole)
    (x0 : Vec F S512x1024 .f32) (x1 : Vec F S1x1024x3584 .bf16) (x2 : Vec F S1x1024x3584 .bf16) (x3 : Vec F S1x3584x1024 .bf16) (xt0 : TbBuf0 (F := F) c tbM0_0) (xt1 : TbBuf0 (F := F) c tbM0_1) (xt2 : TbBuf0 (F := F) c tbM0_2) (hc0 : cond0_0 i (tbM0_2.view.readAt (Elt F) (Rect.unit (s := S1) ![0] S1.size inb_S1_S1_0).toLoadRect xt2 (Shape.Idx.first (numel1_S1.symm ▸ Nat.one_pos)))) (hc1 : ¬cond0_1 i (tbM0_2.view.readAt (Elt F) (Rect.unit (s := S1) ![0] S1.size inb_S1_S1_0).toLoadRect xt2 (Shape.Idx.first (numel1_S1.symm ▸ Nat.one_pos)))) :
    { L4 : List (View.Piece (Elt F) S512x1024 .f32) //
      ∀ (E : Set ℕ) (K : PUnit → sProp (MT nD τ sig Unit (Elt F) ℕ (UR sig nD τ) ℕ)),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8) K } := by
  refine ⟨?_, fun E K => ?run⟩
  case run =>
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, HT2, Hk⟩
    obtain rfl := harg4.eq_unread hf0; obtain rfl := harg5.eq_unread hf1; obtain rfl := harg6.eq_unread hf2; obtain rfl := harg7.eq_unread hf3
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    isplitl [HT1]; · iexact HT1
    iexact HT2

end Cert.Kernel2Ideal.Gen

end
-- ==== Proof.ERunB.lean ====
/-
  The experts' call: its body where the second branch is taken.
-/
module

public import proofs.«01_k».proof.Proof.ERunA

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points all), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg4 : Memref sig .tc .vmem S512x1024 .f32) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x1024 .f32) (harg8 : arg8.IsWhole)
    (x0 : Vec F S512x1024 .f32) (x1 : Vec F S1x1024x3584 .bf16) (x2 : Vec F S1x1024x3584 .bf16) (x3 : Vec F S1x3584x1024 .bf16) (xt0 : TbBuf0 (F := F) c tbM0_0) (xt1 : TbBuf0 (F := F) c tbM0_1) (xt2 : TbBuf0 (F := F) c tbM0_2) (hc0 : ¬cond0_0 i (tbM0_2.view.readAt (Elt F) (Rect.unit (s := S1) ![0] S1.size inb_S1_S1_0).toLoadRect xt2 (Shape.Idx.first (numel1_S1.symm ▸ Nat.one_pos)))) (hc1 : cond0_1 i (tbM0_2.view.readAt (Elt F) (Rect.unit (s := S1) ![0] S1.size inb_S1_S1_0).toLoadRect xt2 (Shape.Idx.first (numel1_S1.symm ▸ Nat.one_pos)))) :
    { L4 : List (View.Piece (Elt F) S512x1024 .f32) //
      ∀ (E : Set ℕ) (K : PUnit → sProp (MT nD τ sig Unit (Elt F) ℕ (UR sig nD τ) ℕ)),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, HT0, HT1, HT2, Hk⟩
    obtain rfl := harg4.eq_unread hf0; obtain rfl := harg5.eq_unread hf1; obtain rfl := harg6.eq_unread hf2; obtain rfl := harg7.eq_unread hf3
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    isplitl [HT1]; · iexact HT1
    iexact HT2

end Cert.Kernel2Ideal.Gen

end
-- ==== Proof.EFrame.lean ====
/-
  The experts' call: what its output holds after each grid point, its run and its frame.
-/
module

public import proofs.«01_k».proof.Proof.ERunB
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 4 tile its block (2 stores of `S512x1024`, checked by the kernel's evaluation: Lib/Ring.lean `Piece.tiledL`, linear in the pieces, through a loop's `@[irreducible]` trip theorem too), so they cover it. -/
theorem cover0_A_4 (c : Dev nD) (i : grid0.Coords) (arg4 : Memref sig .tc .vmem S512x1024 .f32) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x1024 .f32) (harg8 : arg8.IsWhole)
    (x0 : Vec F S512x1024 .f32) (x1 : Vec F S1x1024x3584 .bf16) (x2 : Vec F S1x1024x3584 .bf16) (x3 : Vec F S1x3584x1024 .bf16) (xt0 : TbBuf0 (F := F) c tbM0_0) (xt1 : TbBuf0 (F := F) c tbM0_1) (xt2 : TbBuf0 (F := F) c tbM0_2) (hc0 : cond0_0 i (tbM0_2.view.readAt (Elt F) (Rect.unit (s := S1) ![0] S1.size inb_S1_S1_0).toLoadRect xt2 (Shape.Idx.first (numel1_S1.symm ▸ Nat.one_pos)))) (hc1 : ¬cond0_1 i (tbM0_2.view.readAt (Elt F) (Rect.unit (s := S1) ![0] S1.size inb_S1_S1_0).toLoadRect xt2 (Shape.Idx.first (numel1_S1.symm ▸ Nat.one_pos)))) (y : S512x1024.Idx) :
    ∃ pc ∈ (kernelRun0_A c i arg4 harg4 arg5 harg5 arg6 harg6 arg7 harg7 arg8 harg8 x0 x1 x2 x3 xt0 xt1 xt2 hc0 hc1).1, y ∈ pc.1.set :=
  View.cover_of_tiledL (kernelRun0_A c i arg4 harg4 arg5 harg5 arg6 harg6 arg7 harg7 arg8 harg8 x0 x1 x2 x3 xt0 xt1 xt2 hc0 hc1).1 S512x1024.size (by sl_kernel_rfl) y

/-- What case A leaves in output 4's staging buffer: its pieces read back over junk. -/
def out0_A_4 (c : Dev nD) (i : grid0.Coords) (arg4 : Memref sig .tc .vmem S512x1024 .f32) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x1024 .f32) (harg8 : arg8.IsWhole)
    (x0 : Vec F S512x1024 .f32) (x1 : Vec F S1x1024x3584 .bf16) (x2 : Vec F S1x1024x3584 .bf16) (x3 : Vec F S1x3584x1024 .bf16) (xt0 : TbBuf0 (F := F) c tbM0_0) (xt1 : TbBuf0 (F := F) c tbM0_1) (xt2 : TbBuf0 (F := F) c tbM0_2) (hc0 : cond0_0 i (tbM0_2.view.readAt (Elt F) (Rect.unit (s := S1) ![0] S1.size inb_S1_S1_0).toLoadRect xt2 (Shape.Idx.first (numel1_S1.symm ▸ Nat.one_pos)))) (hc1 : ¬cond0_1 i (tbM0_2.view.readAt (Elt F) (Rect.unit (s := S1) ![0] S1.size inb_S1_S1_0).toLoadRect xt2 (Shape.Idx.first (numel1_S1.symm ▸ Nat.one_pos)))) : Vec F S512x1024 .f32 :=
  VO0_4.read (Elt F) (VO0_4.writes (Elt F) VO0_4.junk (kernelRun0_A c i arg4 harg4 arg5 harg5 arg6 harg6 arg7 harg7 arg8 harg8 x0 x1 x2 x3 xt0 xt1 xt2 hc0 hc1).1)

/-- Case B's pieces for output 4 tile its block (1 store of `S512x1024`, checked by the kernel's evaluation: Lib/Ring.lean `Piece.tiledL`, linear in the pieces, through a loop's `@[irreducible]` trip theorem too), so they cover it. -/
theorem cover0_B_4 (c : Dev nD) (i : grid0.Coords) (arg4 : Memref sig .tc .vmem S512x1024 .f32) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x1024 .f32) (harg8 : arg8.IsWhole)
    (x0 : Vec F S512x1024 .f32) (x1 : Vec F S1x1024x3584 .bf16) (x2 : Vec F S1x1024x3584 .bf16) (x3 : Vec F S1x3584x1024 .bf16) (xt0 : TbBuf0 (F := F) c tbM0_0) (xt1 : TbBuf0 (F := F) c tbM0_1) (xt2 : TbBuf0 (F := F) c tbM0_2) (hc0 : ¬cond0_0 i (tbM0_2.view.readAt (Elt F) (Rect.unit (s := S1) ![0] S1.size inb_S1_S1_0).toLoadRect xt2 (Shape.Idx.first (numel1_S1.symm ▸ Nat.one_pos)))) (hc1 : cond0_1 i (tbM0_2.view.readAt (Elt F) (Rect.unit (s := S1) ![0] S1.size inb_S1_S1_0).toLoadRect xt2 (Shape.Idx.first (numel1_S1.symm ▸ Nat.one_pos)))) (y : S512x1024.Idx) :
    ∃ pc ∈ (kernelRun0_B c i arg4 harg4 arg5 harg5 arg6 harg6 arg7 harg7 arg8 harg8 x0 x1 x2 x3 xt0 xt1 xt2 hc0 hc1).1, y ∈ pc.1.set :=
  View.cover_of_tiledL (kernelRun0_B c i arg4 harg4 arg5 harg5 arg6 harg6 arg7 harg7 arg8 harg8 x0 x1 x2 x3 xt0 xt1 xt2 hc0 hc1).1 S512x1024.size (by sl_kernel_rfl) y

/-- What case B leaves in output 4's staging buffer: its pieces read back over junk. -/
def out0_B_4 (c : Dev nD) (i : grid0.Coords) (arg4 : Memref sig .tc .vmem S512x1024 .f32) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x1024 .f32) (harg8 : arg8.IsWhole)
    (x0 : Vec F S512x1024 .f32) (x1 : Vec F S1x1024x3584 .bf16) (x2 : Vec F S1x1024x3584 .bf16) (x3 : Vec F S1x3584x1024 .bf16) (xt0 : TbBuf0 (F := F) c tbM0_0) (xt1 : TbBuf0 (F := F) c tbM0_1) (xt2 : TbBuf0 (F := F) c tbM0_2) (hc0 : ¬cond0_0 i (tbM0_2.view.readAt (Elt F) (Rect.unit (s := S1) ![0] S1.size inb_S1_S1_0).toLoadRect xt2 (Shape.Idx.first (numel1_S1.symm ▸ Nat.one_pos)))) (hc1 : cond0_1 i (tbM0_2.view.readAt (Elt F) (Rect.unit (s := S1) ![0] S1.size inb_S1_S1_0).toLoadRect xt2 (Shape.Idx.first (numel1_S1.symm ▸ Nat.one_pos)))) : Vec F S512x1024 .f32 :=
  VO0_4.read (Elt F) (VO0_4.writes (Elt F) VO0_4.junk (kernelRun0_B c i arg4 harg4 arg5 harg5 arg6 harg6 arg7 harg7 arg8 harg8 x0 x1 x2 x3 xt0 xt1 xt2 hc0 hc1).1)

/-! ## What the outputs hold after each point -/

/-- What the outputs' staging buffers hold after the body at point `t`: the run's contents at
    the point's memrefs and input blocks, the case its WORD conditions select there. -/
def outsAt0 (hO : Ok m) (c : Dev nD) (t : Fin (cfgM m hO).N) : Vec F S512x1024 .f32 :=
  if h0 : cond0_0 (grid0.coords t) (tbM0_2.view.readAt (Elt F) (Rect.unit (s := S1) ![0] S1.size inb_S1_S1_0).toLoadRect (tbl m 2) (Shape.Idx.first (numel1_S1.symm ▸ Nat.one_pos))) then
    out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (tbl m 2) h0 (fun h => (cond0_1_iff _ _).mp h h0)
  else
    out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (tbl m 2) h0 ((cond0_1_iff _ _).mpr h0)

/-- `outsAt0` at a point of case A: that case's contents. -/
theorem outsAt0_A (hO : Ok m) (c : Dev nD) (t : Fin (cfgM m hO).N) (h0 : cond0_0 (grid0.coords t) (tbM0_2.view.readAt (Elt F) (Rect.unit (s := S1) ![0] S1.size inb_S1_S1_0).toLoadRect (tbl m 2) (Shape.Idx.first (numel1_S1.symm ▸ Nat.one_pos)))) :
    outsAt0 m hO c t = out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (tbl m 2) h0 (fun h => (cond0_1_iff _ _).mp h h0) := by
  unfold outsAt0; exact (dif_pos h0).trans rfl

/-- `outsAt0` at a point of case B: that case's contents. -/
theorem outsAt0_B (hO : Ok m) (c : Dev nD) (t : Fin (cfgM m hO).N) (h0 : ¬cond0_0 (grid0.coords t) (tbM0_2.view.readAt (Elt F) (Rect.unit (s := S1) ![0] S1.size inb_S1_S1_0).toLoadRect (tbl m 2) (Shape.Idx.first (numel1_S1.symm ▸ Nat.one_pos)))) :
    outsAt0 m hO c t = out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (tbl m 2) h0 ((cond0_1_iff _ _).mpr h0) := by
  unfold outsAt0; exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  by_cases h0 : cond0_0 (grid0.coords t) (tbM0_2.view.readAt (Elt F) (Rect.unit (s := S1) ![0] S1.size inb_S1_S1_0).toLoadRect (tbl m 2) (Shape.Idx.first (numel1_S1.symm ▸ Nat.one_pos)))
  · rw [outsAt0_A m hO c t h0]
    unfold out0_A_4
    iintro ⟨⟨HΦ, ⟨HT0, HT1, HT2⟩⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ (iblk m hO c 0 t) (iblk m hO c 1 t) (iblk m hO c 2 t) (iblk m hO c 3 t) (tbl m 0) (tbl m 1) (tbl m 2) h0 (fun h => (cond0_1_iff _ _).mp h h0)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    isplitl [HT2]; · iexact HT2
    iintro ⟨H0, H1, H2, H3, ⟨%e4, H4⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _ _ _)
  · rw [outsAt0_B m hO c t h0]
    unfold out0_B_4
    iintro ⟨⟨HΦ, ⟨HT0, HT1, HT2⟩⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ (iblk m hO c 0 t) (iblk m hO c 1 t) (iblk m hO c 2 t) (iblk m hO c 3 t) (tbl m 0) (tbl m 1) (tbl m 2) h0 ((cond0_1_iff _ _).mpr h0)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    isplitl [HT2]; · iexact HT2
    iintro ⟨H0, H1, H2, H3, ⟨%e4, H4⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- No grid point leaves the output's buffer as it found it: one of the two conditions holds. -/
theorem idle_none (pf : pre0.Contents (Elt F)) (i : grid0.Coords) : idle0 pf 4 i = false := by
  show (!(decide (cond0_0 i (pf.atD 2 ![0]))) && !(decide (cond0_1 i (pf.atD 2 ![0])))) = false
  by_cases h : cond0_0 i (pf.atD 2 ![0])
  · rw [decide_eq_true h]; rfl
  · rw [decide_eq_true ((cond0_1_iff i (pf.atD 2 ![0])).2 h)]; exact Bool.and_false _

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  dsimp only
  rw [idle_none]
  exact triple_restated (sound_body m hO c t) rfl .rfl fun _ => .rfl

/-! ## The run and the frame -/

-- `θ_run_frameP`'s implicit arguments are found by unifying its conclusion with this one, which takes unfolding plain
-- definitions in a metavariable's type
set_option maxHeartbeats 4000000 in
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

end Cert.Kernel2Ideal.Gen

end
-- ==== Proof.EOk.lean ====
/-
  The experts' kernel: tables whose every word names an expert put every block inside its array.
-/
module

public import proofs.«01_k».proof.Proof.EFrame
public import Idealize.ShloMosaic.Lib.Pointwise

@[expose] public section

set_option maxRecDepth 16384

noncomputable section

namespace Cert.Kernel2Ideal.Gen

open Idealize.ShloMosaic Idealize.ShloMosaic.TcCoe Idealize.SL.Sem Cert.Kernel2Ideal
open Idealize.ShloMosaic.Pipeline (Dat)

variable {F : FTy → Type} [FloatOps F]

theorem toNat_point (i : grid0.Coords) : (Scalar.indexCast (BitVec.ofNat 32 (i 0).val)).toNat = (i 0).val := by
  have h : (i 0).val < 136 := (i 0).isLt
  show (BitVec.ofNat 32 (i 0).val).toNat = (i 0).val
  rw [BitVec.toNat_ofNat]
  omega

/-- The word that a window's index map reads. -/
theorem expert_word (pf : pre0.Contents (Elt F)) (i : grid0.Coords) :
    cc0_transform_1 k0_off1_inb numel1_S1 pf i = ![((pf 0 : IVec S136 32) (ix1 (i 0))).toNat, 0, 0] := by
  have h : (Rect.unit (s := S136) (k0_off1 i) S1.size (k0_off1_inb i)).emb (Shape.Idx.first (numel1_S1.symm ▸ Nat.one_pos)) = (ix1 (i 0) : S136.Idx) := by
    funext a
    apply Fin.ext
    have ht := toNat_point i
    match a with
    | ⟨0, _⟩ =>
      show (Scalar.indexCast (BitVec.ofNat 32 (i 0).val)).toNat + 1 * 0 = (i 0).val
      omega
  exact congrArg (fun j => (![((pf 0 : IVec S136 32) j).toNat, 0, 0] : Fin 3 → ℕ)) h

theorem ok_of_words (pf : pre0.Contents (Elt F)) (h : ∀ i : S136.Idx, ((pf 0 : IVec S136 32) i).toNat < 8) : ok0 pf := by
  have e := expert_word pf
  have e2 : ∀ i, cc0_transform_2 k0_off1_inb numel1_S1 pf i = _ := e
  have e3 : ∀ i, cc0_transform_3 k0_off1_inb numel1_S1 pf i = _ := e
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · intro a
    have hi := h (ix1 (i 0))
    rw [e]
    match a with
    | ⟨0, _⟩ => show (((pf 0 : IVec S136 32) (ix1 (i 0))).toNat + 1) * 1 ≤ 8; omega
    | ⟨1, _⟩ => show (0 + 1) * 1024 ≤ 1024; omega
    | ⟨2, _⟩ => show (0 + 1) * 3584 ≤ 3584; omega
  · intro a
    have hi := h (ix1 (i 0))
    rw [e2]
    match a with
    | ⟨0, _⟩ => show (((pf 0 : IVec S136 32) (ix1 (i 0))).toNat + 1) * 1 ≤ 8; omega
    | ⟨1, _⟩ => show (0 + 1) * 1024 ≤ 1024; omega
    | ⟨2, _⟩ => show (0 + 1) * 3584 ≤ 3584; omega
  · intro a
    have hi := h (ix1 (i 0))
    rw [e3]
    match a with
    | ⟨0, _⟩ => show (((pf 0 : IVec S136 32) (ix1 (i 0))).toNat + 1) * 1 ≤ 8; omega
    | ⟨1, _⟩ => show (0 + 1) * 3584 ≤ 3584; omega
    | ⟨2, _⟩ => show (0 + 1) * 1024 ≤ 1024; omega

variable (m : (ℓ : Loc nD τ sig) → Buf (Elt F) ℓ) (ρ : Dev nD → PrngReg)

theorem ok_of_table (h : ∀ i : S136.Idx, ((V m (0 : Dev nD) main_v20 : IVec S136 32) i).toNat < 8) : Ok m := ok_of_words (tbl m) h

/-- From an initial memory whose table names experts the program runs to its end, its arguments unchanged. -/
theorem frame_ok (hO : Ok m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).2 main_arg0 (by decide : main_arg0 ∈ Pipeline.restRefs sig spec0)).trans (V_main_arg0 m c),
      ((h.1 c).1 0).trans (((dats m hO 0 c).arrAt_in 0 rfl _).trans ((A_eq m hO c 0).trans (V_main_arg1 m c))),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c)⟩, h.2⟩) (run_main_quiescent m ρ hO)

end Cert.Kernel2Ideal.Gen

end
-- ==== Proof.EPay.lean ====
/-
  The experts' kernel: what it writes at a grid point, read at an index over the extended reals.
-/
module

public import proofs.«01_k».proof.Proof.EOk
public import Idealize.ShloMosaic.Lib.Pipeline.Value
public import Idealize.ShloMosaic.Lib.Tactic
public import Idealize.ShloMosaic.Lib.Pipeline.ValueKit.Tiles
public import Idealize.ShloMosaic.Lib.Pointwise
public import Idealize.ShloMosaic.Lib.StableHlo.ReadAt

@[expose] public section

set_option maxRecDepth 16384

noncomputable section

namespace Cert.Experts

open Idealize.ShloMosaic Idealize.ShloMosaic.TcCoe Idealize.SL.Sem Cert.Kernel2Ideal Cert.Kernel2Ideal.Gen

/-- The gate's activation, times the other branch. -/
def act (x y : EReal) : EReal := x * Ideal.div 1 (1 + Ideal.exp (-x)) * y

theorem act_zero (y : EReal) : act 0 y = 0 := by simp [act]

/-- One row through some of an expert's hidden units. -/
def units {K : Type} [Fintype K] (X : Fin 1024 → EReal) (G U : Fin 1024 → K → EReal) (D : K → EReal) : EReal :=
  ∑ f, act (∑ k, X k * G k f) (∑ k, X k * U k f) * D f

theorem units_zero {K : Type} [Fintype K] (G U : Fin 1024 → K → EReal) (D : K → EReal) : units (fun _ => 0) G U D = 0 := by
  simp [units, act_zero]

/-- The two halves of the hidden units. -/
theorem units_halves (X : Fin 1024 → EReal) (G U : Fin 1024 → Fin 3584 → EReal) (D : Fin 3584 → EReal) :
    units X (fun k (f : Fin 1792) => G k ⟨f.val, by have := f.isLt; omega⟩) (fun k f => U k ⟨f.val, by have := f.isLt; omega⟩)
        (fun f => D ⟨f.val, by have := f.isLt; omega⟩)
      + units X (fun k (f : Fin 1792) => G k ⟨1792 + f.val, by have := f.isLt; omega⟩)
        (fun k f => U k ⟨1792 + f.val, by have := f.isLt; omega⟩) (fun f => D ⟨1792 + f.val, by have := f.isLt; omega⟩)
      = units X G U D :=
  (Fin.sum_univ_add (a := 1792) (b := 1792) fun f => act (∑ k, X k * G k f) (∑ k, X k * U k f) * D f).symm

/-- A row of the tile, zero past the tile's filled rows. -/
def filled (n : BitVec 32) (x : Vec Ideal S512x1024 .f32) (r : Fin 512) (k : Fin 1024) : EReal :=
  Scalar.select (IntOp.cmpi .slt (BitVec.ofNat 32 r.val) n) (x (ix2 r k)) 0

theorem pay3_apply (n : BitVec 32) (x : Vec Ideal S512x1024 .f32) (r : Fin 512) (k : Fin 1024) :
    k0_pay3 (F := Ideal) n x (ix2 r k) = filled n x r k := by
  pointwise [k0_pay3]
  rfl

theorem pay5_apply (n : BitVec 32) (x : Vec Ideal S512x1024 .f32) (g : Vec Ideal S1x1024x1792 .bf16) (r : Fin 512) (f : Fin 1792) :
    k0_pay5 (F := Ideal) n x g (ix2 r f) = ∑ k, filled n x r k * g (ix3 0 k f) := by
  pointwise [k0_pay5]
  simp only [pay3_apply]

theorem pay6_apply (n : BitVec 32) (x : Vec Ideal S512x1024 .f32) (g : Vec Ideal S1x1024x1792 .bf16) (r : Fin 512) (f : Fin 1792) :
    k0_pay6 (F := Ideal) n x g (ix2 r f) = ∑ k, filled n x r k * g (ix3 0 k f) := by
  pointwise [k0_pay6]
  simp only [pay3_apply]

theorem pay4_apply (n : BitVec 32) (x : Vec Ideal S512x1024 .f32) (g u : Vec Ideal S1x1024x1792 .bf16) (w : Vec Ideal S1x1792x1024 .bf16)
    (r : Fin 512) (d : Fin 1024) :
    k0_pay4 (F := Ideal) n x g u w (ix2 r d)
      = units (filled n x r) (fun k f => g (ix3 0 k f)) (fun k f => u (ix3 0 k f)) (fun f : Fin 1792 => w (ix3 0 f d)) := by
  pointwise [k0_pay4]
  simp only [pay3_apply, zero_sub]
  rfl

theorem pay1_apply (a : FVec Ideal S512x1024 .f32) (g u : FVec Ideal S512x1792 .f32) (w : Vec Ideal S1x1792x1024 .bf16)
    (r : Fin 512) (d : Fin 1024) :
    k0_pay1 (F := Ideal) a g u w (ix2 r d) = a (ix2 r d) + ∑ f, act (g (ix2 r f)) (u (ix2 r f)) * w (ix3 0 f d) := by
  pointwise [k0_pay1]
  simp only [zero_sub]
  rfl

theorem pay2_apply (j : S512x1024.Idx) : k0_pay2 (F := Ideal) j = 0 := by
  pointwise [k0_pay2]

end Cert.Experts

end
-- ==== Proof.EOut.lean ====
/-
  The experts' kernel: the block it writes at a grid point, from the blocks it reads.
-/
module

public import proofs.«01_k».proof.Proof.EPay

@[expose] public section

set_option maxRecDepth 16384

noncomputable section

namespace Cert.Experts

open Idealize.ShloMosaic Idealize.ShloMosaic.TcCoe Idealize.SL.Sem Cert.Kernel2Ideal Cert.Kernel2Ideal.Gen

variable {F : FTy → Type} [FloatOps F]

/-- Half of an expert's first matrices, from hidden unit `o` on. -/
def cols (x : Vec F S1x1024x3584 .bf16) (o : ℕ) : Vec F S1x1024x1792 .bf16 :=
  fun j => x (ix3 0 (j 1) ⟨(o + (j 2).val) % 3584, Nat.mod_lt _ (by decide)⟩)

/-- Half of an expert's last matrix, from hidden unit `o` on. -/
def rows (x : Vec F S1x3584x1024 .bf16) (o : ℕ) : Vec F S1x1792x1024 .bf16 :=
  fun j => x (ix3 0 ⟨(o + (j 1).val) % 3584, Nat.mod_lt _ (by decide)⟩ (j 2))

theorem read_cols {m : Memref sig .tc .vmem S1x1024x3584 .bf16} (hm : m.IsWhole) (x : Vec F S1x1024x3584 .bf16) (o : ℕ)
    (inb : ∀ a, (![0, 0, o] : Fin 3 → ℕ) a + S1x1024x1792.size a ≤ S1x1024x3584.size a) :
    View.readAt (Elt F) m.view (Rect.unit (s := S1x1024x3584) ![0, 0, o] S1x1024x1792.size inb).toLoadRect (hm.unread x)
      = cols x o := by
  rw [View.readAt_eq_ld, hm.read_unread]
  funext j
  refine Idealize.ShloMosaic.View.ld_unit_apply_of x _ _ inb j _ fun a => ?_
  have h2 : o + 1792 ≤ 3584 := inb 2
  have hj : (j 2).val < 1792 := (j 2).isLt
  have h0 : (j 0).val < 1 := (j 0).isLt
  match a with
  | ⟨0, _⟩ => show 0 = 0 + (j 0).val; omega
  | ⟨1, _⟩ => show (j 1).val = 0 + (j 1).val; omega
  | ⟨2, _⟩ => show (o + (j 2).val) % 3584 = o + (j 2).val; omega

theorem read_rows {m : Memref sig .tc .vmem S1x3584x1024 .bf16} (hm : m.IsWhole) (x : Vec F S1x3584x1024 .bf16) (o : ℕ)
    (inb : ∀ a, (![0, o, 0] : Fin 3 → ℕ) a + S1x1792x1024.size a ≤ S1x3584x1024.size a) :
    View.readAt (Elt F) m.view (Rect.unit (s := S1x3584x1024) ![0, o, 0] S1x1792x1024.size inb).toLoadRect (hm.unread x)
      = rows x o := by
  rw [View.readAt_eq_ld, hm.read_unread]
  funext j
  refine Idealize.ShloMosaic.View.ld_unit_apply_of x _ _ inb j _ fun a => ?_
  have h1 : o + 1792 ≤ 3584 := inb 1
  have hj : (j 1).val < 1792 := (j 1).isLt
  have h0 : (j 0).val < 1 := (j 0).isLt
  match a with
  | ⟨0, _⟩ => show 0 = 0 + (j 0).val; omega
  | ⟨1, _⟩ => show (o + (j 1).val) % 3584 = o + (j 1).val; omega
  | ⟨2, _⟩ => show (j 2).val = 0 + (j 2).val; omega

theorem read_all {m : Memref sig .tc .vmem S512x1024 .f32} (hm : m.IsWhole) (x : Vec F S512x1024 .f32)
    (inb : ∀ a, (![0, 0] : Fin 2 → ℕ) a + S512x1024.size a ≤ S512x1024.size a) :
    View.readAt (Elt F) m.view (Rect.unit (s := S512x1024) ![0, 0] S512x1024.size inb).toLoadRect (hm.unread x) = x := by
  rw [View.readAt_eq_ld, hm.read_unread]
  funext j
  refine Idealize.ShloMosaic.View.ld_unit_apply_of x _ _ inb j _ fun a => ?_
  match a with
  | ⟨0, _⟩ => show (j 0).val = 0 + (j 0).val; omega
  | ⟨1, _⟩ => show (j 1).val = 0 + (j 1).val; omega

/-- A word of a table of one word per tile. -/
theorem read_word (x : IVec S136 32) (i : grid0.Coords) :
    (tbM0_1.view.readAt (Elt F) (Rect.unit (s := S136) (k0_off2 i) S1.size (k0_off2_inb i)).toLoadRect x
      (Shape.Idx.first (numel1_S1.symm ▸ Nat.one_pos)) : BitVec 32) = x (ix1 (i 0)) := by
  have h : (Rect.unit (s := S136) (k0_off2 i) S1.size (k0_off2_inb i)).emb (Shape.Idx.first (numel1_S1.symm ▸ Nat.one_pos)) = (ix1 (i 0) : S136.Idx) := by
    funext a
    apply Fin.ext
    have ht := toNat_point i
    match a with
    | ⟨0, _⟩ =>
      show (Scalar.indexCast (BitVec.ofNat 32 (i 0).val)).toNat + 1 * 0 = (i 0).val
      omega
  exact congrArg x h

/-- The number of tiles in use. -/
theorem read_used (x : IVec S1 32) :
    (tbM0_2.view.readAt (Elt F) (Rect.unit (s := S1) ![0] S1.size inb_S1_S1_0).toLoadRect x
      (Shape.Idx.first (numel1_S1.symm ▸ Nat.one_pos)) : BitVec 32) = x (ix1 0) := by
  refine congrArg x (?_ : _ = (ix1 0 : S1.Idx))
  funext a
  apply Fin.ext
  match a with
  | ⟨0, _⟩ => rfl

/-- What is written where the tile is in use. -/
theorem out_A (c : Dev nD) (i : grid0.Coords) (arg4 : Memref sig .tc .vmem S512x1024 .f32) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x1024 .f32) (harg8 : arg8.IsWhole)
    (x0 : Vec F S512x1024 .f32) (x1 : Vec F S1x1024x3584 .bf16) (x2 : Vec F S1x1024x3584 .bf16) (x3 : Vec F S1x3584x1024 .bf16) (xt0 : TbBuf0 (F := F) c tbM0_0) (xt1 : TbBuf0 (F := F) c tbM0_1) (xt2 : TbBuf0 (F := F) c tbM0_2) (hc0 : cond0_0 i (tbM0_2.view.readAt (Elt F) (Rect.unit (s := S1) ![0] S1.size inb_S1_S1_0).toLoadRect xt2 (Shape.Idx.first (numel1_S1.symm ▸ Nat.one_pos)))) (hc1 : ¬cond0_1 i (tbM0_2.view.readAt (Elt F) (Rect.unit (s := S1) ![0] S1.size inb_S1_S1_0).toLoadRect xt2 (Shape.Idx.first (numel1_S1.symm ▸ Nat.one_pos)))) :
    out0_A_4 c i arg4 harg4 arg5 harg5 arg6 harg6 arg7 harg7 arg8 harg8 x0 x1 x2 x3 xt0 xt1 xt2 hc0 hc1 = k0_pay1
      (k0_pay4 (tbM0_1.view.readAt (Elt F) (Rect.unit (s := S136) (k0_off2 i) S1.size (k0_off2_inb i)).toLoadRect xt1
      (Shape.Idx.first (numel1_S1.symm ▸ Nat.one_pos))) x0 (cols x1 0) (cols x2 0) (rows x3 0))
      (k0_pay5 (tbM0_1.view.readAt (Elt F) (Rect.unit (s := S136) (k0_off2 i) S1.size (k0_off2_inb i)).toLoadRect xt1
      (Shape.Idx.first (numel1_S1.symm ▸ Nat.one_pos))) x0 (cols x1 1792))
      (k0_pay6 (tbM0_1.view.readAt (Elt F) (Rect.unit (s := S136) (k0_off2 i) S1.size (k0_off2_inb i)).toLoadRect xt1
      (Shape.Idx.first (numel1_S1.symm ▸ Nat.one_pos))) x0 (cols x2 1792)) (rows x3 1792) := by
  have X := read_all harg4 x0
  have G0 := read_cols harg5 x1 0
  have G1 := read_cols harg5 x1 1792
  have U0 := read_cols harg6 x2 0
  have U1 := read_cols harg6 x2 1792
  have D0 := read_rows harg7 x3 0
  have D1 := read_rows harg7 x3 1792
  unfold out0_A_4
  rw [View.read_writes_eq_canon _ _ _ (cover0_A_4 c i arg4 harg4 arg5 harg5 arg6 harg6 arg7 harg7 arg8 harg8 x0 x1 x2 x3 xt0 xt1 xt2 hc0 hc1)]
  unfold kernelRun0_A
  dsimp only
  sl_unfold_words
  rw [View.canon_unit_zero (by funext a; fin_cases a <;> rfl)]
  simp only [X, G0, G1, U0, U1, D0, D1]

/-- What is written where it is not. -/
theorem out_B (c : Dev nD) (i : grid0.Coords) (arg4 : Memref sig .tc .vmem S512x1024 .f32) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x1024 .f32) (harg8 : arg8.IsWhole)
    (x0 : Vec F S512x1024 .f32) (x1 : Vec F S1x1024x3584 .bf16) (x2 : Vec F S1x1024x3584 .bf16) (x3 : Vec F S1x3584x1024 .bf16) (xt0 : TbBuf0 (F := F) c tbM0_0) (xt1 : TbBuf0 (F := F) c tbM0_1) (xt2 : TbBuf0 (F := F) c tbM0_2) (hc0 : ¬cond0_0 i (tbM0_2.view.readAt (Elt F) (Rect.unit (s := S1) ![0] S1.size inb_S1_S1_0).toLoadRect xt2 (Shape.Idx.first (numel1_S1.symm ▸ Nat.one_pos)))) (hc1 : cond0_1 i (tbM0_2.view.readAt (Elt F) (Rect.unit (s := S1) ![0] S1.size inb_S1_S1_0).toLoadRect xt2 (Shape.Idx.first (numel1_S1.symm ▸ Nat.one_pos)))) :
    out0_B_4 c i arg4 harg4 arg5 harg5 arg6 harg6 arg7 harg7 arg8 harg8 x0 x1 x2 x3 xt0 xt1 xt2 hc0 hc1 = k0_pay2 := by
  unfold out0_B_4
  rw [View.read_writes_eq_canon _ _ _ (cover0_B_4 c i arg4 harg4 arg5 harg5 arg6 harg6 arg7 harg7 arg8 harg8 x0 x1 x2 x3 xt0 xt1 xt2 hc0 hc1)]
  unfold kernelRun0_B
  dsimp only
  sl_unfold_words
  rw [View.canon_unit_zero (by funext a; fin_cases a <;> rfl)]

end Cert.Experts

end
-- ==== Proof.ESpec.lean ====
/-
  What the experts compute: each filled row of a tile in use through its tile's expert, zero elsewhere.
-/
module

public import proofs.«01_k».proof.Proof.EPay

@[expose] public section

set_option maxRecDepth 16384

noncomputable section

namespace Cert.Experts

open Idealize.ShloMosaic Idealize.ShloMosaic.TcCoe Idealize.SL.Sem Cert.Kernel2Ideal Cert.Kernel2Ideal.Gen

variable (x0 x1 : IVec S136 32) (x2 : IVec S1 32) (x3 : FVec Ideal S69632x1024 .f32)
  (x4 x5 : FVec Ideal S8x1024x3584 .f32) (x6 : FVec Ideal S8x3584x1024 .f32)

/-- The tile of a row, and the row in it. -/
def tileOf (p : Fin 69632) : Fin 136 := ⟨p.val / 512, by have := p.isLt; omega⟩
def laneOf (p : Fin 69632) : Fin 512 := ⟨p.val % 512, by omega⟩

/-- Whether a tile is in use. -/
def used (t : Fin 136) : BitVec 1 := IntOp.cmpi .slt (BitVec.ofNat 32 t.val) (x2 (ix1 0))

/-- Whether a row is filled, in a tile in use. -/
def live (p : Fin 69632) : BitVec 1 :=
  IntOp.andi (used x2 (tileOf p)) (IntOp.cmpi .slt (BitVec.ofNat 32 (laneOf p).val) (x1 (ix1 (tileOf p))))

/-- A tile's expert. -/
def expertOf (t : Fin 136) : Fin 8 := ⟨(x0 (ix1 t)).toNat % 8, Nat.mod_lt _ (by decide)⟩

theorem expertOf_val (h : ∀ i : S136.Idx, (x0 i).toNat < 8) (t : Fin 136) : (expertOf x0 t).val = (x0 (ix1 t)).toNat :=
  Nat.mod_eq_of_lt (h _)

theorem expertOf_word (h : ∀ i : S136.Idx, (x0 i).toNat < 8) (t : Fin 136) : x0 (ix1 t) = BitVec.ofNat 32 (expertOf x0 t).val := by
  rw [expertOf_val x0 h]
  exact BitVec.eq_of_toNat_eq (by rw [BitVec.toNat_ofNat]; exact (Nat.mod_eq_of_lt (x0 (ix1 t)).isLt).symm)

/-- A row through an expert. -/
def through (e : Fin 8) (p : Fin 69632) (d : Fin 1024) : EReal :=
  units (fun k => x3 (ix2 p k)) (fun k (f : Fin 3584) => x4 (ix3 e k f)) (fun k f => x5 (ix3 e k f)) (fun f => x6 (ix3 e f d))

/-- The experts' output. -/
def result : FVec Ideal S69632x1024 .f32 := fun i =>
  (Scalar.select (live x1 x2 (i 0)) (through x3 x4 x5 x6 (expertOf x0 (tileOf (i 0))) (i 0) (i 1)) 0 : EReal)

theorem result_congr {x0 y0 x1 y1 : IVec S136 32} {x2 y2 : IVec S1 32} {x3 y3 : FVec Ideal S69632x1024 .f32}
    {x4 y4 x5 y5 : FVec Ideal S8x1024x3584 .f32} {x6 y6 : FVec Ideal S8x3584x1024 .f32} (e0 : x0 = y0) (e1 : x1 = y1) (e2 : x2 = y2)
    (e3 : x3 = y3) (e4 : x4 = y4) (e5 : x5 = y5) (e6 : x6 = y6) :
    result x0 x1 x2 x3 x4 x5 x6 = result y0 y1 y2 y3 y4 y5 y6 := by
  rw [e0, e1, e2, e3, e4, e5, e6]

/-- Of the experts' parts of a row only its own is left. -/
theorem own_part (L : BitVec 1) (w : BitVec 32) (e : Fin 8) (hw : w = BitVec.ofNat 32 e.val) (u : Fin 8 → EReal) (k : Fin 8) :
    Scalar.select (IntOp.andi L (IntOp.cmpi .eq w (BitVec.ofNat 32 k.val))) (u k) 0
      = if k = e then Scalar.select L (u e) 0 else 0 := by
  have key : ∀ e k : Fin 8, IntOp.cmpi .eq (BitVec.ofNat 32 e.val) (BitVec.ofNat 32 k.val) = if k = e then 1#1 else 0#1 := by decide
  have h1 : ∀ L : BitVec 1, IntOp.andi L 1#1 = L := by decide
  have h0 : ∀ L : BitVec 1, IntOp.andi L 0#1 = 0#1 := by decide
  rw [hw, key]
  by_cases h : k = e
  · rw [if_pos h, if_pos h, h1, h]
  · rw [if_neg h, if_neg h, h0]
    exact if_neg (by decide)

theorem parts_sum (s : EReal) (e : Fin 8) (v : Fin 8 → EReal) (hv : ∀ k, v k = if k = e then s else 0) :
    0 + v 0 + v 1 + v 2 + v 3 + v 4 + v 5 + v 6 + v 7 = s := by
  simp only [hv]
  revert e
  intro e hv
  fin_cases e <;> simp

end Cert.Experts

end
-- ==== Proof.EBlk.lean ====
/-
  The experts' kernel: the blocks its windows hold at a grid point, read off the arguments.
-/
module

public import proofs.«01_k».proof.Proof.EOut
public import proofs.«01_k».proof.Proof.ESpec

@[expose] public section

set_option maxRecDepth 16384

noncomputable section

namespace Cert.Experts

open Idealize.ShloMosaic Idealize.ShloMosaic.TcCoe Idealize.SL.Sem Cert.Kernel2Ideal Cert.Kernel2Ideal.Gen

theorem point_val : ∀ t : Fin grid0.N, (grid0.coords t 0).val = t.val := by decide +kernel

section Windows

variable (a : (pcfg0 (F := Ideal)).Adm)

/-- The tile of a grid point. -/
def tile (t : Fin (cfg0 a).N) : Fin 136 := grid0.coords t 0

theorem tile_val (t : Fin (cfg0 a).N) : (tile a t).val = t.val := point_val t

/-- The row of the arrays that a row of a tile is. -/
def rowOf (t : Fin 136) (r : Fin 512) : Fin 69632 := ⟨t.val * 512 + r.val, by have := t.isLt; have := r.isLt; omega⟩

theorem tileOf_row (t : Fin 136) (r : Fin 512) : tileOf (rowOf t r) = t :=
  Fin.ext (by show (t.val * 512 + r.val) / 512 = t.val; have := r.isLt; omega)

theorem laneOf_row (t : Fin 136) (r : Fin 512) : laneOf (rowOf t r) = r :=
  Fin.ext (by show (t.val * 512 + r.val) % 512 = r.val; have := r.isLt; omega)

theorem word_val (t : Fin 136) : (BitVec.ofNat 32 t.val).toNat = t.val := by
  rw [BitVec.toNat_ofNat]
  have := t.isLt
  omega

theorem emb0 (t : Fin (cfg0 a).N) (r : Fin 512) (k : Fin 1024) :
    (((cfg0 a).win 0).blk t).view.emb (ix2 r k) = (ix2 (rowOf (tile a t) r) k : S69632x1024.Idx) := by
  have e := word_val (tile a t)
  funext x; apply Fin.ext
  match x with
  | ⟨0, _⟩ => show (BitVec.ofNat 32 (tile a t).val).toNat * 512 + 1 * r.val = (tile a t).val * 512 + r.val; omega
  | ⟨1, _⟩ => show 0 * 1024 + 1 * k.val = k.val; omega

theorem emb4 (t : Fin (cfg0 a).N) (r : Fin 512) (k : Fin 1024) :
    (((cfg0 a).win 4).blk t).view.emb (ix2 r k) = (ix2 (rowOf (tile a t) r) k : S69632x1024.Idx) := by
  have e := word_val (tile a t)
  funext x; apply Fin.ext
  match x with
  | ⟨0, _⟩ => show (BitVec.ofNat 32 (tile a t).val).toNat * 512 + 1 * r.val = (tile a t).val * 512 + r.val; omega
  | ⟨1, _⟩ => show 0 * 1024 + 1 * k.val = k.val; omega

variable (h : ∀ i : S136.Idx, ((a.1 0 : IVec S136 32) i).toNat < 8)
include h

theorem idx1 (t : Fin (cfg0 a).N) : cc0_transform_1 k0_off1_inb numel1_S1 a.1 (grid0.coords t) = ![(expertOf (a.1 0) (tile a t)).val, 0, 0] := by
  rw [expertOf_val _ h]
  exact expert_word a.1 (grid0.coords t)

theorem emb1 (t : Fin (cfg0 a).N) (k : Fin 1024) (f : Fin 3584) :
    (((cfg0 a).win 1).blk t).view.emb (ix3 0 k f) = (ix3 (expertOf (a.1 0) (tile a t)) k f : S8x1024x3584.Idx) := by
  have e := idx1 a h t
  have e0 := congrFun e 0
  have e1 := congrFun e 1
  have e2 := congrFun e 2
  funext x; apply Fin.ext
  match x with
  | ⟨0, _⟩ =>
    refine Eq.trans (show _ = cc0_transform_1 k0_off1_inb numel1_S1 a.1 (grid0.coords t) 0 * 1 + 1 * 0 from rfl) ?_
    rw [e0]
    show (expertOf (a.1 0) (tile a t)).val * 1 + 1 * 0 = (expertOf (a.1 0) (tile a t)).val; omega
  | ⟨1, _⟩ => show 0 * 1024 + 1 * k.val = k.val; omega
  | ⟨2, _⟩ => show 0 * 3584 + 1 * f.val = f.val; omega

theorem emb2 (t : Fin (cfg0 a).N) (k : Fin 1024) (f : Fin 3584) :
    (((cfg0 a).win 2).blk t).view.emb (ix3 0 k f) = (ix3 (expertOf (a.1 0) (tile a t)) k f : S8x1024x3584.Idx) := emb1 a h t k f

theorem emb3 (t : Fin (cfg0 a).N) (f : Fin 3584) (d : Fin 1024) :
    (((cfg0 a).win 3).blk t).view.emb (ix3 0 f d) = (ix3 (expertOf (a.1 0) (tile a t)) f d : S8x3584x1024.Idx) := by
  have e := idx1 a h t
  have e0 := congrFun e 0
  funext x; apply Fin.ext
  match x with
  | ⟨0, _⟩ =>
    refine Eq.trans (show _ = cc0_transform_1 k0_off1_inb numel1_S1 a.1 (grid0.coords t) 0 * 1 + 1 * 0 from rfl) ?_
    rw [e0]
    show (expertOf (a.1 0) (tile a t)).val * 1 + 1 * 0 = (expertOf (a.1 0) (tile a t)).val; omega
  | ⟨1, _⟩ => show 0 * 3584 + 1 * f.val = f.val; omega
  | ⟨2, _⟩ => show 0 * 1024 + 1 * d.val = d.val; omega

omit h in
theorem read0 (w : FVec Ideal S69632x1024 .f32) (t : Fin (cfg0 a).N) (r : Fin 512) (k : Fin 1024) :
    (((cfg0 a).win 0).blk t).view.read (Elt Ideal) w (ix2 r k) = w (ix2 (rowOf (tile a t) r) k) :=
  congrArg w (emb0 a t r k)

theorem read1 (w : FVec Ideal S8x1024x3584 .bf16) (t : Fin (cfg0 a).N) (k : Fin 1024) (f : Fin 3584) :
    (((cfg0 a).win 1).blk t).view.read (Elt Ideal) w (ix3 0 k f) = w (ix3 (expertOf (a.1 0) (tile a t)) k f) :=
  congrArg w (emb1 a h t k f)

theorem read2 (w : FVec Ideal S8x1024x3584 .bf16) (t : Fin (cfg0 a).N) (k : Fin 1024) (f : Fin 3584) :
    (((cfg0 a).win 2).blk t).view.read (Elt Ideal) w (ix3 0 k f) = w (ix3 (expertOf (a.1 0) (tile a t)) k f) :=
  congrArg w (emb2 a h t k f)

theorem read3 (w : FVec Ideal S8x3584x1024 .bf16) (t : Fin (cfg0 a).N) (f : Fin 3584) (d : Fin 1024) :
    (((cfg0 a).win 3).blk t).view.read (Elt Ideal) w (ix3 0 f d) = w (ix3 (expertOf (a.1 0) (tile a t)) f d) :=
  congrArg w (emb3 a h t f d)

end Windows

/-! The host's casts of the weights, which keep every number. -/

variable (m : (ℓ : Loc nD τ sig) → Buf (Elt Ideal) ℓ) (c : Dev nD)

theorem V_v40 : (V m c main_v40 : FVec Ideal S8x1024x3584 .bf16) = (m ((c.tc : Thread nD τ).loc main_arg2) : FVec Ideal S8x1024x3584 .f32) := by
  funext j
  unfold V
  after_reads_at

theorem V_v41 : (V m c main_v41 : FVec Ideal S8x1024x3584 .bf16) = (m ((c.tc : Thread nD τ).loc main_arg3) : FVec Ideal S8x1024x3584 .f32) := by
  funext j
  unfold V
  after_reads_at

theorem V_v42 : (V m c main_v42 : FVec Ideal S8x3584x1024 .bf16) = (m ((c.tc : Thread nD τ).loc main_arg4) : FVec Ideal S8x3584x1024 .f32) := by
  funext j
  unfold V
  after_reads_at

end Cert.Experts

end
-- ==== Proof.EArr.lean ====
/-
  The array that the experts' kernel leaves, whole: each grid point writes its tile, and the tiles cover it.
-/
module

public import proofs.«01_k».proof.Proof.EBlk

@[expose] public section

set_option maxRecDepth 16384

noncomputable section

namespace Cert.Experts

open Idealize.ShloMosaic Idealize.ShloMosaic.TcCoe Idealize.SL.Sem Cert.Kernel2Ideal Cert.Kernel2Ideal.Gen
open Idealize.ShloMosaic.Pipeline (Dat)

/-- A row past the filled ones stays zero through the expert. -/
theorem units_filled (n : BitVec 32) (x : Vec Ideal S512x1024 .f32) (r : Fin 512) (G U : Fin 1024 → Fin 3584 → EReal) (D : Fin 3584 → EReal) :
    units (filled n x r) G U D = Scalar.select (IntOp.cmpi .slt (BitVec.ofNat 32 r.val) n) (units (fun k => x (ix2 r k)) G U D) 0 := by
  unfold filled
  generalize IntOp.cmpi .slt (BitVec.ofNat 32 r.val) n = b
  have hb : b = 1#1 ∨ b = 0#1 := by revert b; decide
  obtain rfl | rfl := hb
  · rfl
  · exact units_zero G U D

/-- The body's block: its rows through the expert, the two halves of the hidden units one after the other. -/
theorem block_out (n : BitVec 32) (x0 : Vec Ideal S512x1024 .f32) (x1 x2 : Vec Ideal S1x1024x3584 .bf16) (x3 : Vec Ideal S1x3584x1024 .bf16)
    (r : Fin 512) (d : Fin 1024) :
    k0_pay1 (F := Ideal) (k0_pay4 n x0 (cols x1 0) (cols x2 0) (rows x3 0)) (k0_pay5 n x0 (cols x1 1792)) (k0_pay6 n x0 (cols x2 1792))
        (rows x3 1792) (ix2 r d)
      = Scalar.select (IntOp.cmpi .slt (BitVec.ofNat 32 r.val) n)
          (units (fun k => x0 (ix2 r k)) (fun k (f : Fin 3584) => x1 (ix3 0 k f)) (fun k f => x2 (ix3 0 k f)) (fun f => x3 (ix3 0 f d))) 0 := by
  rw [← units_filled, ← units_halves, pay1_apply, pay4_apply]
  simp only [pay5_apply, pay6_apply]
  have e0 : ∀ f : Fin 1792, (⟨(0 + f.val) % 3584, Nat.mod_lt _ (by decide)⟩ : Fin 3584) = ⟨f.val, by have := f.isLt; omega⟩ :=
    fun f => Fin.ext (by show (0 + f.val) % 3584 = f.val; have := f.isLt; omega)
  have e1 : ∀ f : Fin 1792, (⟨(1792 + f.val) % 3584, Nat.mod_lt _ (by decide)⟩ : Fin 3584) = ⟨1792 + f.val, by have := f.isLt; omega⟩ :=
    fun f => Fin.ext (by show (1792 + f.val) % 3584 = 1792 + f.val; have := f.isLt; omega)
  have c0 : ∀ (x : Vec Ideal S1x1024x3584 .bf16) (k : Fin 1024) (f : Fin 1792), cols x 0 (ix3 0 k f) = x (ix3 0 k ⟨f.val, by have := f.isLt; omega⟩) :=
    fun x k f => congrArg (fun g => x (ix3 0 k g)) (e0 f)
  have c1 : ∀ (x : Vec Ideal S1x1024x3584 .bf16) (k : Fin 1024) (f : Fin 1792), cols x 1792 (ix3 0 k f) = x (ix3 0 k ⟨1792 + f.val, by have := f.isLt; omega⟩) :=
    fun x k f => congrArg (fun g => x (ix3 0 k g)) (e1 f)
  have r0 : ∀ f : Fin 1792, rows x3 0 (ix3 0 f d) = x3 (ix3 0 ⟨f.val, by have := f.isLt; omega⟩ d) :=
    fun f => congrArg (fun g => x3 (ix3 0 g d)) (e0 f)
  have r1 : ∀ f : Fin 1792, rows x3 1792 (ix3 0 f d) = x3 (ix3 0 ⟨1792 + f.val, by have := f.isLt; omega⟩ d) :=
    fun f => congrArg (fun g => x3 (ix3 0 g d)) (e1 f)
  simp only [c0, c1, r0, r1]
  rfl

/-- A row of a tile in use. -/
theorem out_A_row (c : Dev nD) (i : grid0.Coords) (arg4 : Memref sig .tc .vmem S512x1024 .f32) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x1024 .f32) (harg8 : arg8.IsWhole)
    (x0 : Vec Ideal S512x1024 .f32) (x1 : Vec Ideal S1x1024x3584 .bf16) (x2 : Vec Ideal S1x1024x3584 .bf16) (x3 : Vec Ideal S1x3584x1024 .bf16) (xt0 : TbBuf0 (F := Ideal) c tbM0_0) (xt1 : TbBuf0 (F := Ideal) c tbM0_1) (xt2 : TbBuf0 (F := Ideal) c tbM0_2) (hc0 : cond0_0 i (tbM0_2.view.readAt (Elt Ideal) (Rect.unit (s := S1) ![0] S1.size inb_S1_S1_0).toLoadRect xt2 (Shape.Idx.first (numel1_S1.symm ▸ Nat.one_pos)))) (hc1 : ¬cond0_1 i (tbM0_2.view.readAt (Elt Ideal) (Rect.unit (s := S1) ![0] S1.size inb_S1_S1_0).toLoadRect xt2 (Shape.Idx.first (numel1_S1.symm ▸ Nat.one_pos))))
    (n : BitVec 32) (hn : tbM0_1.view.readAt (Elt Ideal) (Rect.unit (s := S136) (k0_off2 i) S1.size (k0_off2_inb i)).toLoadRect xt1
      (Shape.Idx.first (numel1_S1.symm ▸ Nat.one_pos)) = n) (r : Fin 512) (d : Fin 1024)
    {X : Fin 1024 → EReal} {G U : Fin 1024 → Fin 3584 → EReal} {D : Fin 3584 → EReal} (hX : ∀ k, x0 (ix2 r k) = X k)
    (hG : ∀ k f, x1 (ix3 0 k f) = G k f) (hU : ∀ k f, x2 (ix3 0 k f) = U k f) (hD : ∀ f, x3 (ix3 0 f d) = D f) :
    out0_A_4 c i arg4 harg4 arg5 harg5 arg6 harg6 arg7 harg7 arg8 harg8 x0 x1 x2 x3 xt0 xt1 xt2 hc0 hc1 (ix2 r d) = Scalar.select (IntOp.cmpi .slt (BitVec.ofNat 32 r.val) n) (units X G U D) 0 := by
  rw [out_A, hn, block_out]
  simp only [hX, hG, hU, hD]

/-- A row of a tile that is not. -/
theorem out_B_row (c : Dev nD) (i : grid0.Coords) (arg4 : Memref sig .tc .vmem S512x1024 .f32) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x1024 .f32) (harg8 : arg8.IsWhole)
    (x0 : Vec Ideal S512x1024 .f32) (x1 : Vec Ideal S1x1024x3584 .bf16) (x2 : Vec Ideal S1x1024x3584 .bf16) (x3 : Vec Ideal S1x3584x1024 .bf16) (xt0 : TbBuf0 (F := Ideal) c tbM0_0) (xt1 : TbBuf0 (F := Ideal) c tbM0_1) (xt2 : TbBuf0 (F := Ideal) c tbM0_2) (hc0 : ¬cond0_0 i (tbM0_2.view.readAt (Elt Ideal) (Rect.unit (s := S1) ![0] S1.size inb_S1_S1_0).toLoadRect xt2 (Shape.Idx.first (numel1_S1.symm ▸ Nat.one_pos)))) (hc1 : cond0_1 i (tbM0_2.view.readAt (Elt Ideal) (Rect.unit (s := S1) ![0] S1.size inb_S1_S1_0).toLoadRect xt2 (Shape.Idx.first (numel1_S1.symm ▸ Nat.one_pos))))
    (r : Fin 512) (d : Fin 1024) : out0_B_4 c i arg4 harg4 arg5 harg5 arg6 harg6 arg7 harg7 arg8 harg8 x0 x1 x2 x3 xt0 xt1 xt2 hc0 hc1 (ix2 r d) = (0 : EReal) := by
  rw [out_B, pay2_apply]

/-- The tile in use, as the body's first condition asks it. -/
theorem cond_used (i : grid0.Coords) (w : BitVec 32) : cond0_0 i w ↔ IntOp.cmpi .slt (BitVec.ofNat 32 (i 0).val) w = 1#1 := by
  unfold cond0_0
  have h : ∀ b : BitVec 1, (Scalar.cmpi .ne (Scalar.extui b : BitVec 32) 0#32) = 1#1 ↔ b = 1#1 := by decide
  exact h _

variable (m : (ℓ : Loc nD τ sig) → Buf (Elt Ideal) ℓ) (c : Dev nD)

/-- The experts' output over the program's arguments. -/
def output : FVec Ideal S69632x1024 .f32 :=
  result (V m c main_v20) (V m c main_v37) (V m c main_v39)
    (m ((c.tc : Thread nD τ).loc main_arg1)) (m ((c.tc : Thread nD τ).loc main_arg2)) (m ((c.tc : Thread nD τ).loc main_arg3))
    (m ((c.tc : Thread nD τ).loc main_arg4))

variable (hO : Ok m) (h : ∀ i : S136.Idx, ((V m c main_v20 : IVec S136 32) i).toNat < 8)

theorem tbl0 : (tbl m 0 : IVec S136 32) = V m c main_v20 := (V_pre m c 0).symm
theorem tbl1 : (tbl m 1 : IVec S136 32) = V m c main_v37 := (V_pre m c 1).symm
theorem tbl2 : (tbl m 2 : IVec S1 32) = V m c main_v39 := (V_pre m c 2).symm

theorem blk0 (t : Fin (cfgM m hO).N) (r : Fin 512) (k : Fin 1024) : (iblk m hO c 0 t : Vec Ideal S512x1024 .f32) (ix2 r k)
    = (m ((c.tc : Thread nD τ).loc main_arg1) : FVec Ideal S69632x1024 .f32) (ix2 (rowOf (tile (adm m hO) t) r) k) := by
  have hv := V_main_arg1 m c
  unfold iblk
  generalize V m c = W at hv ⊢
  rw [← hv]
  exact read0 (adm m hO) (W main_arg1) t r k

include h in
theorem blk1 (t : Fin (cfgM m hO).N) (k : Fin 1024) (f : Fin 3584) : (iblk m hO c 1 t : Vec Ideal S1x1024x3584 .bf16) (ix3 0 k f)
    = (m ((c.tc : Thread nD τ).loc main_arg2) : FVec Ideal S8x1024x3584 .f32)
        (ix3 (expertOf (V m c main_v20) (tile (adm m hO) t)) k f) := by
  have hv := V_v40 m c
  have ht := tbl0 m c
  rw [← ht] at h ⊢
  unfold iblk
  generalize V m c = W at hv ⊢
  rw [← hv]
  exact read1 (adm m hO) h (W main_v40) t k f

include h in
theorem blk2 (t : Fin (cfgM m hO).N) (k : Fin 1024) (f : Fin 3584) : (iblk m hO c 2 t : Vec Ideal S1x1024x3584 .bf16) (ix3 0 k f)
    = (m ((c.tc : Thread nD τ).loc main_arg3) : FVec Ideal S8x1024x3584 .f32)
        (ix3 (expertOf (V m c main_v20) (tile (adm m hO) t)) k f) := by
  have hv := V_v41 m c
  have ht := tbl0 m c
  rw [← ht] at h ⊢
  unfold iblk
  generalize V m c = W at hv ⊢
  rw [← hv]
  exact read2 (adm m hO) h (W main_v41) t k f

include h in
theorem blk3 (t : Fin (cfgM m hO).N) (f : Fin 3584) (d : Fin 1024) : (iblk m hO c 3 t : Vec Ideal S1x3584x1024 .bf16) (ix3 0 f d)
    = (m ((c.tc : Thread nD τ).loc main_arg4) : FVec Ideal S8x3584x1024 .f32)
        (ix3 (expertOf (V m c main_v20) (tile (adm m hO) t)) f d) := by
  have hv := V_v42 m c
  have ht := tbl0 m c
  rw [← ht] at h ⊢
  unfold iblk
  generalize V m c = W at hv ⊢
  rw [← hv]
  exact read3 (adm m hO) h (W main_v42) t f d

/-- The output at a tile's row. -/
theorem output_row (t : Fin 136) (r : Fin 512) (d : Fin 1024) : output m c (ix2 (rowOf t r) d)
    = (Scalar.select (IntOp.andi (used (V m c main_v39) t)
        (IntOp.cmpi .slt (BitVec.ofNat 32 r.val) ((V m c main_v37 : IVec S136 32) (ix1 t))))
        (through (m ((c.tc : Thread nD τ).loc main_arg1)) (m ((c.tc : Thread nD τ).loc main_arg2)) (m ((c.tc : Thread nD τ).loc main_arg3))
          (m ((c.tc : Thread nD τ).loc main_arg4)) (expertOf (V m c main_v20) t) (rowOf t r) d) 0 : EReal) := by
  show (Scalar.select (live _ _ (rowOf t r)) (through _ _ _ _ (expertOf _ (tileOf (rowOf t r))) (rowOf t r) d) 0 : EReal) = _
  unfold live
  rw [tileOf_row, laneOf_row]

include h in
/-- What the body leaves at a grid point is its tile of the output. -/
theorem outs_row (t : Fin (cfgM m hO).N) (r : Fin 512) (d : Fin 1024) :
    outsAt0 m hO c t (ix2 r d) = output m c (ix2 (rowOf (tile (adm m hO) t) r) d) := by
  have hu : (tbM0_2.view.readAt (Elt Ideal) (Rect.unit (s := S1) ![0] S1.size inb_S1_S1_0).toLoadRect (tbl m 2)
      (Shape.Idx.first (numel1_S1.symm ▸ Nat.one_pos)) : BitVec 32) = (V m c main_v39 : IVec S1 32) (ix1 0) :=
    (read_used (tbl m 2)).trans (congrFun (tbl2 m c) _)
  have hw : (tbM0_1.view.readAt (Elt Ideal) (Rect.unit (s := S136) (k0_off2 (grid0.coords t)) S1.size (k0_off2_inb (grid0.coords t))).toLoadRect (tbl m 1)
      (Shape.Idx.first (numel1_S1.symm ▸ Nat.one_pos)) : BitVec 32) = (V m c main_v37 : IVec S136 32) (ix1 (tile (adm m hO) t)) :=
    (read_word (tbl m 1) (grid0.coords t)).trans (congrFun (tbl1 m c) _)
  have and1 : ∀ b : BitVec 1, IntOp.andi 1#1 b = b := by decide
  have and0 : ∀ a b : BitVec 1, a ≠ 1#1 → IntOp.andi a b = 0#1 := by decide
  rw [output_row]
  by_cases h0 : cond0_0 (grid0.coords t) (tbM0_2.view.readAt (Elt Ideal) (Rect.unit (s := S1) ![0] S1.size inb_S1_S1_0).toLoadRect (tbl m 2) (Shape.Idx.first (numel1_S1.symm ▸ Nat.one_pos)))
  · refine (congrFun (outsAt0_A m hO c t h0) _).trans ((out_A_row c (grid0.coords t) _ _ _ _ _ _ _ _ _ _ _ _ _ _ _ _ _ h0 _ _ hw r d
      (blk0 m c hO t r) (blk1 m c hO h t) (blk2 m c hO h t) (fun f => blk3 m c hO h t f d)).trans ?_)
    rw [hu, cond_used] at h0
    have h1 : used (V m c main_v39) (tile (adm m hO) t) = 1#1 := h0
    rw [h1, and1]
    rfl
  · refine (congrFun (outsAt0_B m hO c t h0) _).trans ((out_B_row c (grid0.coords t) _ _ _ _ _ _ _ _ _ _ _ _ _ _ _ _ _ h0 _ r d).trans ?_)
    rw [hu, cond_used] at h0
    have h1 : used (V m c main_v39) (tile (adm m hO) t) ≠ 1#1 := h0
    rw [and0 _ _ h1]
    exact (if_neg (by decide)).symm

/-- A block that holds its tile of the output is the array's block there. -/
theorem cut_result (a : (pcfg0 (F := Ideal)).Adm) (R : FVec Ideal S69632x1024 .f32) (t : Fin (cfg0 a).N) (w : Vec Ideal S512x1024 .f32)
    (hw : ∀ (r : Fin 512) (d : Fin 1024), w (ix2 r d) = R (ix2 (rowOf (tile a t) r) d)) :
    ((cfg0 a).win 4).cut (grid0.coords t) w = (((cfg0 a).win 4).blk t).view.read (Elt Ideal) R := by
  refine funext fun (j : S512x1024.Idx) => ?_
  obtain ⟨r, d, rfl⟩ : ∃ (r : Fin 512) (d : Fin 1024), j = (ix2 r d : S512x1024.Idx) := ⟨j 0, j 1, by
    funext x
    match x with
    | ⟨0, _⟩ => rfl
    | ⟨1, _⟩ => rfl⟩
  have h5 : R ((((cfg0 a).win 4).blk t).view.emb (ix2 r d)) = w (ix2 r d) := (congrArg R (emb4 a t r d)).trans (hw r d).symm
  exact h5.symm

include h in
theorem flushed_result (t : Fin (cfgM m hO).N) :
    (dats m hO 0 c).flushed 4 t = (((cfgM m hO).win 4).blk t).view.read (Elt Ideal) (output m c) := by
  have hr := outs_row m c hO h t
  show ((cfgM m hO).win 4).cut (grid0.coords t) ((dats m hO 0 c).after 4 t) = _
  rw [after0_4]
  generalize outsAt0 m hO c t = w at hr ⊢
  exact cut_result (adm m hO) (output m c) t w hr

/-- The blocks cover the array. -/
theorem covered (a : (pcfg0 (F := Ideal)).Adm) (i : S69632x1024.Idx) :
    ∃ t : Fin (cfg0 a).N, ((cfg0 a).win 4).flush t = true ∧ i ∈ (((cfg0 a).win 4).blk t).view.set := by
  have h0 : (i 0).val < 69632 := (i 0).isLt
  have h1 : (i 1).val < 1024 := (i 1).isLt
  let t : Fin (cfg0 a).N := ⟨(i 0).val / 512, by
    show _ < 136
    omega⟩
  refine ⟨t, flush0_4 a t, ?_⟩
  have h := (((cfg0 a).win 4).blk t).view.emb_mem_set (ix2 ⟨(i 0).val % 512, by omega⟩ ⟨(i 1).val, h1⟩ : S512x1024.Idx)
  rw [emb4] at h
  refine (congrArg (· ∈ (((cfg0 a).win 4).blk t).view.set) (?_ : _ = i)).mp h
  have et := tile_val a t
  funext x; apply Fin.ext
  match x with
  | ⟨0, _⟩ =>
    show (tile a t).val * 512 + (i 0).val % 512 = (i 0).val
    rw [et]
    show (i 0).val / 512 * 512 + (i 0).val % 512 = (i 0).val
    omega
  | ⟨1, _⟩ => rfl

include h in
/-- The kernel's array after the run is the experts' output. -/
theorem final_result : (dats m hO 0 c).arrAt 4 (cfgM m hO).N = output m c :=
  (dats m hO 0 c).arrAt_eq_of_cover 4 (output m c) (fun t _ => flushed_result m c hO h t) (covered (adm m hO))

end Cert.Experts

end
-- ==== Proof.Tables.lean ====
/-
  The experts' look-ups from the counts: each expert's rows from a multiple of 512 on, the tiles' experts, the tiles' filled rows and the number of tiles in use.
-/
module

public import Idealize.ShloMosaic.Lib.Routing.OpsOne
public import Idealize.ShloMosaic.Lib.Routing.OpsSearch
public import Idealize.ShloMosaic.Lib.Routing.Words
public import Idealize.ShloMosaic.Lib.WordCmp

@[expose] public section

noncomputable section

namespace Cert.Tables

open Idealize.ShloMosaic Idealize.ShloMosaic.ValueIdx Idealize.ShloMosaic.Routing Idealize.ShloMosaic.WordCmp

/-! ## The layout, in naturals -/

section Layout

variable (k : ℕ → ℕ)

/-- An expert's rows, filled up to a multiple of 512. -/
def pd (e : ℕ) : ℕ := (k e + 511) / 512 * 512

/-- Where an expert's rows end. -/
def en (e : ℕ) : ℕ := ((List.range (e + 1)).map (pd k)).sum

/-- Where an expert's rows start. -/
def st (e : ℕ) : ℕ := ((List.range e).map (pd k)).sum

theorem st_zero : st k 0 = 0 := rfl
theorem st_succ (e : ℕ) : st k (e + 1) = en k e := rfl
theorem en_eq (e : ℕ) : en k e = st k e + pd k e := by
  unfold en st
  rw [List.range_succ, List.map_append, List.sum_append]
  simp

theorem le_pd (e : ℕ) : k e ≤ pd k e := by unfold pd; omega

theorem en_succ (e : ℕ) : en k (e + 1) = en k e + pd k (e + 1) := by rw [en_eq, st_succ]

theorem en_mono {a b : ℕ} (h : a ≤ b) : en k a ≤ en k b := by
  induction b, h using Nat.le_induction with
  | base => exact le_refl _
  | succ n _ ih => rw [en_succ]; omega

theorem st_mod (e : ℕ) : st k e % 512 = 0 := by
  induction e with
  | zero => rfl
  | succ n ih => rw [st_succ, en_eq, pd]; omega

theorem en_mod (e : ℕ) : en k e % 512 = 0 := st_mod k (e + 1)

theorem st_le (hk : ∀ e, k e ≤ 65536) (e : ℕ) : st k e ≤ e * 65536 := by
  induction e with
  | zero => exact le_refl _
  | succ n ih => rw [st_succ, en_eq, pd]; have := hk n; omega

theorem en_le (hk : ∀ e, k e ≤ 65536) (e : ℕ) : en k e ≤ (e + 1) * 65536 := st_le k hk (e + 1)

/-- The experts whose rows end at or below a tile's first row. -/
def below (t : ℕ) : ℕ := Nat.count (fun q => en k q ≤ 512 * t) 8

theorem below_eq {t e : ℕ} (he : e < 8) (h : ∀ q < 8, en k q ≤ 512 * t ↔ q < e) : below k t = e := by
  unfold below
  rw [Nat.count_eq_card_filter_range]
  rw [Finset.filter_congr (q := fun q => q < e) fun q hq => h q (Finset.mem_range.1 hq)]
  interval_cases e <;> rfl

/-- A row belongs to an expert where its tile is in use, the row is filled and the tile's expert is this one: where the row lies among the expert's. -/
theorem own {p e : ℕ} (he : e < 8) :
    (p / 512 < en k 7 / 512 ∧ p < st k (min (below k (p / 512)) 7) + k (min (below k (p / 512)) 7) ∧ e = min (below k (p / 512)) 7)
      ↔ (st k e ≤ p ∧ p < st k e + k e) := by
  constructor
  · rintro ⟨h1, h2, h3⟩
    rw [← h3] at h2
    refine ⟨?_, h2⟩
    have h7 : ¬ en k 7 ≤ 512 * (p / 512) := by have := en_mod k 7; omega
    have hex : ∃ q, ¬ en k q ≤ 512 * (p / 512) := ⟨7, h7⟩
    classical
    have hf := Nat.find_spec hex
    have hlt : Nat.find hex ≤ 7 := Nat.find_min' hex h7
    have hb : below k (p / 512) = Nat.find hex := below_eq k (by omega) fun q _ => ⟨fun hq => by
        by_contra hc
        have := en_mono k (show Nat.find hex ≤ q by omega)
        omega, fun hq => not_not.1 (Nat.find_min hex hq)⟩
    have he' : e = Nat.find hex := by omega
    rcases Nat.eq_zero_or_pos e with h0 | h0
    · rw [h0, st_zero]; omega
    · obtain ⟨e, rfl⟩ : ∃ d, e = d + 1 := ⟨e - 1, by omega⟩
      have := not_not.1 (Nat.find_min hex (show e < Nat.find hex by omega))
      rw [st_succ]
      omega
  · rintro ⟨h1, h2⟩
    have hlt : p < en k e := by have := le_pd k e; rw [en_eq]; omega
    have hb : below k (p / 512) = e := below_eq k he fun q _ => ⟨fun hq => by
        by_contra hc
        have := en_mono k (show e ≤ q by omega)
        have := en_mod k q
        omega, fun hq => by
        have hle : en k q ≤ st k e := by
          obtain ⟨d, rfl⟩ : ∃ d, e = d + 1 := ⟨e - 1, by omega⟩
          rw [st_succ]
          exact en_mono k (by omega)
        have := en_mod k q
        omega⟩
    have hm : min (below k (p / 512)) 7 = e := by omega
    rw [hm]
    refine ⟨?_, h2, rfl⟩
    have := en_mono k (show e ≤ 7 by omega)
    have := en_mod k 7
    omega

end Layout

/-! ## Words -/

/-- A count and 511. -/
theorem up_word (a : ℕ) : BitVec.ofNat 32 a + 512#32 - 1#32 = BitVec.ofNat 32 (a + 511) := by
  rw [BitVec.ofNat_add]
  generalize BitVec.ofNat 32 a = w
  bv_omega

theorem word_mul (a b : ℕ) : BitVec.ofNat 32 a * BitVec.ofNat 32 b = BitVec.ofNat 32 (a * b) :=
  BitVec.eq_of_toNat_eq (by simp [Nat.mul_mod])

theorem toInt_small {a : ℕ} (h : a < 2 ^ 31) : (BitVec.ofNat 32 a).toInt = (a : ℤ) := StableHlo.Predicate.toInt_ofNat_small a h

/-- A tile's filled rows, as a bound on a row of it. -/
theorem filled {a t l : ℕ} (ha : a < 2 ^ 30) (ht : t < 2 ^ 30) (hl : l < 512) :
    IntOp.cmpi .slt (BitVec.ofNat 32 l) (IntOp.minsi 512#32 (IntOp.maxsi 0#32 (BitVec.ofNat 32 a - BitVec.ofNat 32 t)))
      = BitVec.ofBool (decide (t + l < a)) := by
  have h1 : (BitVec.ofNat 32 a - BitVec.ofNat 32 t).toInt = (a : ℤ) - t := by
    rw [BitVec.toInt_sub, toInt_small (by omega), toInt_small (by omega)]
    exact Int.bmod_eq_of_le (by omega) (by omega)
  generalize BitVec.ofNat 32 a - BitVec.ofNat 32 t = w at h1 ⊢
  have hl' := toInt_small (show l < 2 ^ 31 by omega)
  have h512 : (512#32 : BitVec 32).toInt = 512 := by decide
  have h0 : (0#32 : BitVec 32).toInt = 0 := by decide
  unfold IntOp.cmpi IntOp.minsi IntOp.maxsi
  simp only [BitVec.slt_eq_decide]
  congr 1
  rw [decide_eq_decide]
  simp only [decide_eq_true_eq, apply_ite BitVec.toInt, h0, h512, hl', h1]
  split_ifs <;> omega

/-- A tile's expert is one of the eight. -/
theorem min7_lt {n : ℕ} (hn : n ≤ 8) : IntOp.minsi (BitVec.ofNat 32 n) 7#32 = BitVec.ofNat 32 (min n 7) := by
  interval_cases n <;> rfl

/-! ## The printed look-ups -/

section Printed

variable (hb1 : shape0.BroadcastsInDim (shape1 1) (![] : Fin 0 → Fin (shape1 1).rank))
  (hb8 : shape0.BroadcastsInDim (shape1 8) (![] : Fin 0 → Fin (shape1 8).rank))
  (hb136 : shape0.BroadcastsInDim (shape1 136) (![] : Fin 0 → Fin (shape1 136).rank))
  (hb0 : shape0.BroadcastsInDim shape0 (![] : Fin 0 → Fin shape0.rank))
  (hw : (shape1 8).ReduceWindows (![8] : Fin 1 → Nat) ![1] ![7] ![0] (shape1 8)) (hu : 0 < shape0.numel)
  (hr1 : (shape1 136).BroadcastsInDim (shape2 136 1) (![0] : Fin 1 → Fin (shape2 136 1).rank))
  (hr2 : (shape2 136 1).BroadcastsInDim (shape2 136 8) (![0, 1] : Fin 2 → Fin (shape2 136 8).rank))
  (hc1 : (shape1 8).BroadcastsInDim (shape2 1 8) (![1] : Fin 1 → Fin (shape2 1 8).rank))
  (hc2 : (shape2 1 8).BroadcastsInDim (shape2 136 8) (![0, 1] : Fin 2 → Fin (shape2 136 8).rank))
  (hx : 1 < 32) (hred : (shape2 136 8).ReducesTo [1] (shape1 136))
  (g : GatherDims (shape1 8) (shape2 136 1) (shape1 136)) (hs : (shape1 8).Slices ![7] (shape1 1))
  (c : IVec (shape1 8) 32)

/-- The filled-up counts. -/
def padW : IVec (shape1 8) 32 :=
  muli (pyDiv hb8 (subi (addi c (broadcastInDim (shape1 8) ![] hb8 (constantI shape0 32 512#32))) (broadcastInDim (shape1 8) ![] hb8 (constantI shape0 32 1#32)))
    (constantI shape0 32 512#32)) (broadcastInDim (shape1 8) ![] hb8 (constantI shape0 32 512#32))

/-- The ends of the experts' rows. -/
def endW : IVec (shape1 8) 32 :=
  Host.reduceWindow IntOp.addi ![8] ![1] ![7] ![0] (padW hb8 c) (broadcastInDim shape0 ![] hb0 (constantI shape0 32 0#32)) hw hu

/-- The tiles' first rows. -/
def rowW : IVec (shape1 136) 32 := muli (iotaInDim (shape1 136) 32 0) (broadcastInDim (shape1 136) ![] hb136 (constantI shape0 32 512#32))

/-- Which experts' rows end at or below a tile's first row. -/
def maskW : IVec (shape2 136 8) 1 :=
  cmpi .sge (broadcastInDim (shape2 136 8) ![0, 1] hr2 (broadcastInDim (shape2 136 1) ![0] hr1 (rowW hb136)))
    (broadcastInDim (shape2 136 8) ![0, 1] hc2 (broadcastInDim (shape2 1 8) ![1] hc1 (endW hb8 hb0 hw hu c)))

/-- The tiles' experts. -/
def expertW : IVec (shape1 136) 32 :=
  minsi (Host.reduce IntOp.addi (extui 32 (maskW hb8 hb136 hb0 hw hu hr1 hr2 hc1 hc2 c) hx) (constantI shape0 32 0#32) hred hu)
    (broadcastInDim (shape1 136) ![] hb136 (constantI shape0 32 7#32))

/-- A table of experts, as the print looks up with it. -/
def wrapW (t : IVec (shape1 136) 32) : IVec (shape2 136 1) 32 :=
  broadcastInDim (shape2 136 1) ![0] hr1
    (select (cmpi .slt t (broadcastInDim (shape1 136) ![] hb136 (constantI shape0 32 0#32)))
      (addi t (broadcastInDim (shape1 136) ![] hb136 (constantI shape0 32 8#32))) t)

/-- The tiles' filled rows. -/
def validW : IVec (shape1 136) 32 :=
  minsi (broadcastInDim (shape1 136) ![] hb136 (constantI shape0 32 512#32))
    (maxsi (broadcastInDim (shape1 136) ![] hb136 (constantI shape0 32 0#32))
      (subi (addi (Host.gather g (subi (endW hb8 hb0 hw hu c) (padW hb8 c)) (wrapW hb136 hr1 (expertW hb8 hb136 hb0 hw hu hr1 hr2 hc1 hc2 hx hred c)))
        (Host.gather g c (wrapW hb136 hr1 (expertW hb8 hb136 hb0 hw hu hr1 hr2 hc1 hc2 hx hred c)))) (rowW hb136)))

/-- The number of tiles in use. -/
def usedW : IVec (shape1 1) 32 :=
  pyDiv hb1 (extractStridedSlice (shape1 1) ![7] (endW hb8 hb0 hw hu c) hs) (constantI shape0 32 512#32)

/-- Whatever the counts hold, a tile's expert is one of the eight. -/
theorem expertW_lt (i : (shape1 136).Idx) : (expertW hb8 hb136 hb0 hw hu hr1 hr2 hc1 hc2 hx hred c i).toNat < 8 := by
  obtain ⟨t, rfl⟩ : ∃ t : Fin 136, i = ix1 t := ⟨i 0, by funext a; match a with | ⟨0, _⟩ => rfl⟩
  classical
  show (IntOp.minsi (Host.reduce IntOp.addi (extui 32 (maskW hb8 hb136 hb0 hw hu hr1 hr2 hc1 hc2 c) hx) (constantI shape0 32 0#32) hred hu (ix1 t)) 7#32).toNat < 8
  rw [reduce_count (by decide) _ hx hred hu t (fun q => if h : q < 8 then maskW hb8 hb136 hb0 hw hu hr1 hr2 hc1 hc2 c (ix2 t ⟨q, h⟩) = 1#1 else False)
    (fun q => by rw [dif_pos q.isLt]), min7_lt (Nat.count_le _), BitVec.toNat_ofNat]
  have := Nat.mod_le (min (Nat.count (fun q => if h : q < 8 then maskW hb8 hb136 hb0 hw hu hr1 hr2 hc1 hc2 c (ix2 t ⟨q, h⟩) = 1#1 else False) 8) 7) (2 ^ 32)
  omega

variable (k : ℕ → ℕ) (hk : ∀ e, k e ≤ 65536) (hc : ∀ e : Fin 8, c (ix1 e) = BitVec.ofNat 32 (k e.val))

include hk hc

theorem padW_ap (e : Fin 8) : padW hb8 c (ix1 e) = BitVec.ofNat 32 (pd k e.val) := by
  unfold padW
  rw [muli_ap, bc0]
  have h := hk e.val
  rw [pyDiv_ap hb8 _ (constantI shape0 32 512#32) (ix1 e) (a := k e.val + 511) (b := 512) (by
    rw [subi_ap, addi_ap, bc0, bc0, hc]; exact up_word _) rfl (by omega) (by decide) (by decide)]
  exact word_mul _ _

theorem endW_ap (e : Fin 8) : endW hb8 hb0 hw hu c (ix1 e) = BitVec.ofNat 32 (en k e.val) := by
  unfold endW
  exact cumsum1 (by decide) _ (pd k) (padW_ap hb8 c k hk hc) _ (bc0 _ _ _) hw hu e

theorem startW_ap (e : Fin 8) : subi (endW hb8 hb0 hw hu c) (padW hb8 c) (ix1 e) = BitVec.ofNat 32 (st k e.val) := by
  rw [subi_ap, endW_ap hb8 hb0 hw hu c k hk hc, padW_ap hb8 c k hk hc, en_eq, BitVec.ofNat_add, BitVec.add_sub_cancel]

omit hk hc in
theorem rowW_ap (t : Fin 136) : rowW hb136 (ix1 t) = BitVec.ofNat 32 (512 * t.val) := by
  unfold rowW
  rw [muli_ap, bc0, iota1_ap, Nat.mul_comm]
  exact word_mul _ _

theorem expertW_ap (t : Fin 136) : expertW hb8 hb136 hb0 hw hu hr1 hr2 hc1 hc2 hx hred c (ix1 t) = BitVec.ofNat 32 (min (below k t.val) 7) := by
  have ht := t.isLt
  show IntOp.minsi (Host.reduce IntOp.addi (extui 32 (maskW hb8 hb136 hb0 hw hu hr1 hr2 hc1 hc2 c) hx) (constantI shape0 32 0#32) hred hu (ix1 t)) 7#32 = _
  rw [reduce_count (by decide) _ hx hred hu t (fun q => en k q ≤ 512 * t.val) (fun q => by
    have := en_le k hk q.val
    have hq := q.isLt
    show IntOp.cmpi .sge _ _ = 1#1 ↔ _
    rw [bcRows, bcCols, rowW_ap hb136, endW_ap hb8 hb0 hw hu c k hk hc]
    exact cmpi_sge_ofNat_eq_one_iff (by omega) (by omega)), min7_lt (Nat.count_le _)]
  rfl

theorem wrapW_ap (t : Fin 136) : wrapW hb136 hr1 (expertW hb8 hb136 hb0 hw hu hr1 hr2 hc1 hc2 hx hred c) (ix2 t (0 : Fin 1))
    = BitVec.ofNat 32 (min (below k t.val) 7) := by
  unfold wrapW
  rw [bcCol]
  show Scalar.select (IntOp.cmpi .slt (expertW hb8 hb136 hb0 hw hu hr1 hr2 hc1 hc2 hx hred c (ix1 t)) 0#32) _
    (expertW hb8 hb136 hb0 hw hu hr1 hr2 hc1 hc2 hx hred c (ix1 t)) = _
  rw [expertW_ap hb8 hb136 hb0 hw hu hr1 hr2 hc1 hc2 hx hred c k hk hc]
  have h : min (below k t.val) 7 ≤ 7 := min_le_right _ _
  generalize min (below k t.val) 7 = n at h ⊢
  have h0 : IntOp.cmpi .slt (BitVec.ofNat 32 n) 0#32 = 0#1 := by interval_cases n <;> rfl
  rw [h0]
  exact if_neg (by decide)

theorem validW_ap (hg1 : g.collapsedSliceDims = [0]) (hg2 : g.operandBatchingDims = []) (hg3 : g.startIndexMap = [0]) (hg4 : g.indexVectorDim = 1)
    (t : Fin 136) {l : ℕ} (hl : l < 512) :
    IntOp.cmpi .slt (BitVec.ofNat 32 l) (validW hb8 hb136 hb0 hw hu hr1 hr2 hc1 hc2 hx hred g c (ix1 t))
      = BitVec.ofBool (decide (512 * t.val + l < st k (min (below k t.val) 7) + k (min (below k t.val) 7))) := by
  have ht := t.isLt
  have h7 : min (below k t.val) 7 < 8 := by have := min_le_right (below k t.val) 7; omega
  have e := wrapW_ap hb8 hb136 hb0 hw hu hr1 hr2 hc1 hc2 hx hred c k hk hc t
  have e1 := gather_take1 g hg1 hg2 hg3 hg4 (subi (endW hb8 hb0 hw hu c) (padW hb8 c)) _ t ⟨_, h7⟩ e (by decide)
  have e2 := gather_take1 g hg1 hg2 hg3 hg4 c _ t ⟨_, h7⟩ e (by decide)
  rw [startW_ap hb8 hb0 hw hu c k hk hc] at e1
  rw [hc] at e2
  have hv : validW hb8 hb136 hb0 hw hu hr1 hr2 hc1 hc2 hx hred g c (ix1 t)
      = IntOp.minsi 512#32 (IntOp.maxsi 0#32 (BitVec.ofNat 32 (st k (min (below k t.val) 7) + k (min (below k t.val) 7)) - BitVec.ofNat 32 (512 * t.val))) := by
    unfold validW
    show IntOp.minsi 512#32 (IntOp.maxsi 0#32 (Host.gather g _ _ (ix1 t) + Host.gather g _ _ (ix1 t) - rowW hb136 (ix1 t))) = _
    rw [e1, e2, rowW_ap, BitVec.ofNat_add]
  rw [hv]
  have h1 := st_le k hk (min (below k t.val) 7)
  have h2 := hk (min (below k t.val) 7)
  exact filled (by omega) (by omega) hl

theorem usedW_ap (t : Fin 136) : IntOp.cmpi .slt (BitVec.ofNat 32 t.val) (usedW hb1 hb8 hb0 hw hu hs c (ix1 (0 : Fin 1)))
    = BitVec.ofBool (decide (t.val < en k 7 / 512)) := by
  have ht := t.isLt
  have h7 := en_le k hk 7
  unfold usedW
  rw [pyDiv_ap hb1 _ (constantI shape0 32 512#32) (ix1 (0 : Fin 1)) (a := en k 7) (b := 512) (by
    rw [slice1 7 _ hs (0 : Fin 1) (by decide)]
    exact endW_ap hb8 hb0 hw hu c k hk hc 7) rfl (by omega) (by decide) (by decide)]
  exact cmpi_slt_ofNat (by omega) (by omega)

end Printed

end Cert.Tables

end
-- ==== Proof.ETab.lean ====
/-
  The experts' look-ups, as the launch finds them.
-/
module

public import proofs.«01_k».proof.Proof.EOk
public import proofs.«01_k».proof.Proof.Tables
public import Idealize.ShloMosaic.Lib.StableHlo.ReadAt

@[expose] public section

set_option maxRecDepth 16384

noncomputable section

namespace Cert.Kernel2Ideal.Gen

open Idealize.ShloMosaic Idealize.ShloMosaic.TcCoe Idealize.SL.Sem Cert.Kernel2Ideal Cert.Kernel2Ideal.Facts

variable {F : FTy → Type} [FloatOps F] (m : (ℓ : Loc nD τ sig) → Buf (Elt F) ℓ) (c : Dev nD)

/-- The tiles' experts. -/
theorem V_v20 : (V m c main_v20 : IVec S136 32) = Cert.Tables.expertW bcast_S_S8 bcast_S_S136 bcast_S_S_ reduceWindows_S8_S8_w8s1p7_0 h_S_
    bcast_S136_S136x1_0 bcast_S136x1_S136x8_0_1 bcast_S8_S1x8_1 bcast_S1x8_S136x8_0_1 natLt_1_32 reducesTo_S136x8_S136_d1
    (m ((c : Thread nD τ).loc main_arg0)) := by
  unfold V
  after_reads_simp
  simp -implicitDefEqProofs only [StableHlo.TRef.toBuf, StableHlo.TRef.ofBuf, cast_cast, cast_eq]
  rfl

/-- The tiles' filled rows. -/
theorem V_v37 : (V m c main_v37 : IVec S136 32) = Cert.Tables.validW bcast_S_S8 bcast_S_S136 bcast_S_S_ reduceWindows_S8_S8_w8s1p7_0 h_S_
    bcast_S136_S136x1_0 bcast_S136x1_S136x8_0_1 bcast_S8_S1x8_1 bcast_S1x8_S136x8_0_1 natLt_1_32 reducesTo_S136x8_S136_d1
    gather_S8_S136x1_S136_n_0_n_n_0_1_1 (m ((c : Thread nD τ).loc main_arg0)) := by
  unfold V
  after_reads_simp
  simp -implicitDefEqProofs only [StableHlo.TRef.toBuf, StableHlo.TRef.ofBuf, cast_cast, cast_eq]
  rfl

/-- The number of tiles in use. -/
theorem V_v39 : (V m c main_v39 : IVec S1 32) = Cert.Tables.usedW bcast_S_S1 bcast_S_S8 bcast_S_S_ reduceWindows_S8_S8_w8s1p7_0 h_S_
    slices_S8_S1_7 (m ((c : Thread nD τ).loc main_arg0)) := by
  unfold V
  after_reads_simp
  simp -implicitDefEqProofs only [StableHlo.TRef.toBuf, StableHlo.TRef.ofBuf, cast_cast, cast_eq]
  rfl

/-- The tables name experts. -/
theorem table_lt (i : S136.Idx) : ((V m c main_v20 : IVec S136 32) i).toNat < 8 := by
  rw [V_v20]
  exact Cert.Tables.expertW_lt _ _ _ _ _ _ _ _ _ _ _ _ i

theorem ok : Ok m := ok_of_table m (table_lt m 0)

end Cert.Kernel2Ideal.Gen

end
-- ==== Proof.ERef.lean ====
/-
  The experts' reference: its array read at an index.
-/
module

public import proofs.«01_k».proof.Proof.ESpec
public import proofs.«01_k».proof.Proof.Tables
public import proofs.«01_k».proof.Proof.Gen.Reference2Ideal.Read
public import Idealize.ShloMosaic.Lib.Pointwise

@[expose] public section

set_option maxRecDepth 16384

noncomputable section

namespace Cert.Experts.Ref

open Idealize.ShloMosaic Idealize.ShloMosaic.TcCoe Idealize.SL.Sem Cert.Reference2Ideal Cert.Reference2Ideal.Gen Cert.Reference2Ideal.Read Cert.Tables
open Idealize.ShloMosaic.Routing (shape0 pyDiv0 pyDiv0_ap subi_ap addi_ap muli_ap)

variable (x0 : (⟨S8, .i32⟩ : BufTy).Contents (Elt Ideal)) (x1 : (⟨S69632x1024, .f32⟩ : BufTy).Contents (Elt Ideal)) (x2 x3 : (⟨S8x1024x3584, .f32⟩ : BufTy).Contents (Elt Ideal)) (x4 : (⟨S8x3584x1024, .f32⟩ : BufTy).Contents (Elt Ideal))

/-! ## Generic steps -/

theorem start_step (k : ℕ → ℕ) (hk : ∀ e, k e ≤ 65536) (p c : IVec shape0 32) (e : ℕ) (hp : p ix0 = BitVec.ofNat 32 (st k e)) (hc : c ix0 = BitVec.ofNat 32 (k e)) :
    addi p (muli (pyDiv0 (subi (addi c (constantI shape0 32 512#32)) (constantI shape0 32 1#32)) (constantI shape0 32 512#32)) (constantI shape0 32 512#32)) ix0
      = BitVec.ofNat 32 (st k (e + 1)) := by
  have h := hk e
  have q : pyDiv0 (subi (addi c (constantI shape0 32 512#32)) (constantI shape0 32 1#32)) (constantI shape0 32 512#32) ix0
      = BitVec.ofNat 32 ((k e + 511) / 512) := pyDiv0_ap _ _ (a := k e + 511) (b := 512) (by
    show c ix0 + 512#32 - 1#32 = _
    rw [hc]; exact up_word _) rfl (by omega) (by decide) (by decide)
  rw [addi_ap, muli_ap, q, hp, st_succ, en_eq, BitVec.ofNat_add]
  exact congrArg _ (word_mul _ _)

/-- One on an expert's rows, zero elsewhere. -/
def mine (k : ℕ → ℕ) (e : ℕ) (p : Fin 69632) : EReal := if st k e ≤ p.val ∧ p.val < st k e + k e then 1 else 0

theorem mine_word (k : ℕ → ℕ) (hk : ∀ e, k e ≤ 65536) {e : ℕ} (he : e < 8) (p : Fin 69632) (s c : BitVec 32)
    (hs : s = BitVec.ofNat 32 (st k e)) (hc : c = BitVec.ofNat 32 (k e)) :
    (Scalar.select (IntOp.andi (IntOp.cmpi .sge (BitVec.ofNat 32 p.val) s) (IntOp.cmpi .slt (BitVec.ofNat 32 p.val) (IntOp.addi s c))) 1 0 : EReal)
      = mine k e p := by
  have h1 := st_le k hk e
  have h2 := hk e
  have hp := p.isLt
  have e1 : IntOp.cmpi .sge (BitVec.ofNat 32 p.val) s = BitVec.ofBool (decide (st k e ≤ p.val)) := by
    rw [hs]; exact WordCmp.cmpi_sge_ofNat (by omega) (by omega)
  have e2 : IntOp.cmpi .slt (BitVec.ofNat 32 p.val) (IntOp.addi s c) = BitVec.ofBool (decide (p.val < st k e + k e)) := by
    rw [hs, hc, show IntOp.addi (BitVec.ofNat 32 (st k e)) (BitVec.ofNat 32 (k e)) = BitVec.ofNat 32 (st k e + k e) from (BitVec.ofNat_add ..).symm]
    exact WordCmp.cmpi_slt_ofNat (by omega) (by omega)
  rw [e1, e2]
  unfold mine
  by_cases ha : st k e ≤ p.val <;> by_cases hb : p.val < st k e + k e <;> simp [ha, hb, IntOp.andi, Scalar.select]

/-- Of the experts' parts of a row only its own is left. -/
theorem mine_own (k : ℕ → ℕ) (e b : Fin 8) (p : Fin 69632) (hb : b.val = min (below k (p.val / 512)) 7) (L : BitVec 1)
    (hL : L = IntOp.andi (BitVec.ofBool (decide (p.val / 512 < en k 7 / 512))) (BitVec.ofBool (decide (p.val < st k b.val + k b.val)))) (u : Fin 8 → EReal) :
    mine k e.val p * u e = if e = b then Scalar.select L (u b) 0 else 0 := by
  have h := own k (p := p.val) e.isLt
  rw [← hb] at h
  unfold mine
  by_cases hC : st k e.val ≤ p.val ∧ p.val < st k e.val + k e.val
  · obtain ⟨h1, h2, h3⟩ := h.2 hC
    have he : e = b := Fin.ext h3
    rw [if_pos hC, if_pos he, hL, he]
    simp [h1, h2, IntOp.andi, Scalar.select]
  · rw [if_neg hC, zero_mul]
    by_cases he : e = b
    · rw [if_pos he, hL]
      have hn : ¬ (p.val / 512 < en k 7 / 512 ∧ p.val < st k b.val + k b.val) := fun hh => hC (h.1 ⟨hh.1, hh.2, congrArg Fin.val he⟩)
      by_cases ha : p.val / 512 < en k 7 / 512
      · have hb' : ¬ p.val < st k b.val + k b.val := fun hh => hn ⟨ha, hh⟩
        simp [ha, hb', IntOp.andi, Scalar.select]
      · simp [ha, IntOp.andi, Scalar.select]
    · rw [if_neg he]

theorem base (p : Fin 69632) (d : Fin 1024) : (val_main_v1 (F := Ideal) : FVec Ideal S69632x1024 .f32) (ix2 p d) = (0 : EReal) := by
  unfold val_main_v1 val_main_cst
  pointwise

theorem step0 (p : Fin 69632) (d : Fin 1024) : (val_main_v26 (F := Ideal) x0 x1 x2 x3 x4 : FVec Ideal S69632x1024 .f32) (ix2 p d)
    = (val_main_v1 (F := Ideal) : FVec Ideal S69632x1024 .f32) (ix2 p d)
      + (val_main_v10 (F := Ideal) x0 : FVec Ideal S69632 .f32) (ix1 p) * through x1 x2 x3 x4 0 p d := by
  unfold val_main_v26 val_main_v25 val_main_v24 val_main_v23 val_main_v22 val_main_v21 val_main_v20 val_main_v19 val_main_call1_v5 val_main_call1_v4 val_main_call1_cst_0 val_main_call1_v3 val_main_call1_v2 val_main_call1_cst val_main_call1_v1 val_main_call1_v0 val_main_v18 val_main_v17 val_main_v16 val_main_v15 val_main_v14 val_main_v13 val_main_v12 val_main_v11 through
  dsimp only [id]
  generalize val_main_v1 (F := Ideal) = Z
  generalize val_main_v10 (F := Ideal) x0 = C
  pointwise
  rfl

theorem step1 (p : Fin 69632) (d : Fin 1024) : (val_main_v58 (F := Ideal) x0 x1 x2 x3 x4 : FVec Ideal S69632x1024 .f32) (ix2 p d)
    = (val_main_v26 (F := Ideal) x0 x1 x2 x3 x4 : FVec Ideal S69632x1024 .f32) (ix2 p d)
      + (val_main_v42 (F := Ideal) x0 : FVec Ideal S69632 .f32) (ix1 p) * through x1 x2 x3 x4 1 p d := by
  unfold val_main_v58 val_main_v57 val_main_v56 val_main_v55 val_main_v54 val_main_v53 val_main_v52 val_main_v51 val_main_call4_v5 val_main_call4_v4 val_main_call4_cst_0 val_main_call4_v3 val_main_call4_v2 val_main_call4_cst val_main_call4_v1 val_main_call4_v0 val_main_v50 val_main_v49 val_main_v48 val_main_v47 val_main_v46 val_main_v45 val_main_v44 val_main_v43 through
  dsimp only [id]
  generalize val_main_v26 (F := Ideal) x0 x1 x2 x3 x4 = Z
  generalize val_main_v42 (F := Ideal) x0 = C
  pointwise
  rfl

theorem step2 (p : Fin 69632) (d : Fin 1024) : (val_main_v90 (F := Ideal) x0 x1 x2 x3 x4 : FVec Ideal S69632x1024 .f32) (ix2 p d)
    = (val_main_v58 (F := Ideal) x0 x1 x2 x3 x4 : FVec Ideal S69632x1024 .f32) (ix2 p d)
      + (val_main_v74 (F := Ideal) x0 : FVec Ideal S69632 .f32) (ix1 p) * through x1 x2 x3 x4 2 p d := by
  unfold val_main_v90 val_main_v89 val_main_v88 val_main_v87 val_main_v86 val_main_v85 val_main_v84 val_main_v83 val_main_call7_v5 val_main_call7_v4 val_main_call7_cst_0 val_main_call7_v3 val_main_call7_v2 val_main_call7_cst val_main_call7_v1 val_main_call7_v0 val_main_v82 val_main_v81 val_main_v80 val_main_v79 val_main_v78 val_main_v77 val_main_v76 val_main_v75 through
  dsimp only [id]
  generalize val_main_v58 (F := Ideal) x0 x1 x2 x3 x4 = Z
  generalize val_main_v74 (F := Ideal) x0 = C
  pointwise
  rfl

theorem step3 (p : Fin 69632) (d : Fin 1024) : (val_main_v122 (F := Ideal) x0 x1 x2 x3 x4 : FVec Ideal S69632x1024 .f32) (ix2 p d)
    = (val_main_v90 (F := Ideal) x0 x1 x2 x3 x4 : FVec Ideal S69632x1024 .f32) (ix2 p d)
      + (val_main_v106 (F := Ideal) x0 : FVec Ideal S69632 .f32) (ix1 p) * through x1 x2 x3 x4 3 p d := by
  unfold val_main_v122 val_main_v121 val_main_v120 val_main_v119 val_main_v118 val_main_v117 val_main_v116 val_main_v115 val_main_call10_v5 val_main_call10_v4 val_main_call10_cst_0 val_main_call10_v3 val_main_call10_v2 val_main_call10_cst val_main_call10_v1 val_main_call10_v0 val_main_v114 val_main_v113 val_main_v112 val_main_v111 val_main_v110 val_main_v109 val_main_v108 val_main_v107 through
  dsimp only [id]
  generalize val_main_v90 (F := Ideal) x0 x1 x2 x3 x4 = Z
  generalize val_main_v106 (F := Ideal) x0 = C
  pointwise
  rfl

theorem step4 (p : Fin 69632) (d : Fin 1024) : (val_main_v154 (F := Ideal) x0 x1 x2 x3 x4 : FVec Ideal S69632x1024 .f32) (ix2 p d)
    = (val_main_v122 (F := Ideal) x0 x1 x2 x3 x4 : FVec Ideal S69632x1024 .f32) (ix2 p d)
      + (val_main_v138 (F := Ideal) x0 : FVec Ideal S69632 .f32) (ix1 p) * through x1 x2 x3 x4 4 p d := by
  unfold val_main_v154 val_main_v153 val_main_v152 val_main_v151 val_main_v150 val_main_v149 val_main_v148 val_main_v147 val_main_call13_v5 val_main_call13_v4 val_main_call13_cst_0 val_main_call13_v3 val_main_call13_v2 val_main_call13_cst val_main_call13_v1 val_main_call13_v0 val_main_v146 val_main_v145 val_main_v144 val_main_v143 val_main_v142 val_main_v141 val_main_v140 val_main_v139 through
  dsimp only [id]
  generalize val_main_v122 (F := Ideal) x0 x1 x2 x3 x4 = Z
  generalize val_main_v138 (F := Ideal) x0 = C
  pointwise
  rfl

theorem step5 (p : Fin 69632) (d : Fin 1024) : (val_main_v186 (F := Ideal) x0 x1 x2 x3 x4 : FVec Ideal S69632x1024 .f32) (ix2 p d)
    = (val_main_v154 (F := Ideal) x0 x1 x2 x3 x4 : FVec Ideal S69632x1024 .f32) (ix2 p d)
      + (val_main_v170 (F := Ideal) x0 : FVec Ideal S69632 .f32) (ix1 p) * through x1 x2 x3 x4 5 p d := by
  unfold val_main_v186 val_main_v185 val_main_v184 val_main_v183 val_main_v182 val_main_v181 val_main_v180 val_main_v179 val_main_call16_v5 val_main_call16_v4 val_main_call16_cst_0 val_main_call16_v3 val_main_call16_v2 val_main_call16_cst val_main_call16_v1 val_main_call16_v0 val_main_v178 val_main_v177 val_main_v176 val_main_v175 val_main_v174 val_main_v173 val_main_v172 val_main_v171 through
  dsimp only [id]
  generalize val_main_v154 (F := Ideal) x0 x1 x2 x3 x4 = Z
  generalize val_main_v170 (F := Ideal) x0 = C
  pointwise
  rfl

theorem step6 (p : Fin 69632) (d : Fin 1024) : (val_main_v218 (F := Ideal) x0 x1 x2 x3 x4 : FVec Ideal S69632x1024 .f32) (ix2 p d)
    = (val_main_v186 (F := Ideal) x0 x1 x2 x3 x4 : FVec Ideal S69632x1024 .f32) (ix2 p d)
      + (val_main_v202 (F := Ideal) x0 : FVec Ideal S69632 .f32) (ix1 p) * through x1 x2 x3 x4 6 p d := by
  unfold val_main_v218 val_main_v217 val_main_v216 val_main_v215 val_main_v214 val_main_v213 val_main_v212 val_main_v211 val_main_call19_v5 val_main_call19_v4 val_main_call19_cst_0 val_main_call19_v3 val_main_call19_v2 val_main_call19_cst val_main_call19_v1 val_main_call19_v0 val_main_v210 val_main_v209 val_main_v208 val_main_v207 val_main_v206 val_main_v205 val_main_v204 val_main_v203 through
  dsimp only [id]
  generalize val_main_v186 (F := Ideal) x0 x1 x2 x3 x4 = Z
  generalize val_main_v202 (F := Ideal) x0 = C
  pointwise
  rfl

theorem step7 (p : Fin 69632) (d : Fin 1024) : (val_main_v250 (F := Ideal) x0 x1 x2 x3 x4 : FVec Ideal S69632x1024 .f32) (ix2 p d)
    = (val_main_v218 (F := Ideal) x0 x1 x2 x3 x4 : FVec Ideal S69632x1024 .f32) (ix2 p d)
      + (val_main_v234 (F := Ideal) x0 : FVec Ideal S69632 .f32) (ix1 p) * through x1 x2 x3 x4 7 p d := by
  unfold val_main_v250 val_main_v249 val_main_v248 val_main_v247 val_main_v246 val_main_v245 val_main_v244 val_main_v243 val_main_call22_v5 val_main_call22_v4 val_main_call22_cst_0 val_main_call22_v3 val_main_call22_v2 val_main_call22_cst val_main_call22_v1 val_main_call22_v0 val_main_v242 val_main_v241 val_main_v240 val_main_v239 val_main_v238 val_main_v237 val_main_v236 val_main_v235 through
  dsimp only [id]
  generalize val_main_v218 (F := Ideal) x0 x1 x2 x3 x4 = Z
  generalize val_main_v234 (F := Ideal) x0 = C
  pointwise
  rfl

section Counts

variable (k : ℕ → ℕ) (hk : ∀ e, k e ≤ 65536) (hc : ∀ e : Fin 8, (x0 : IVec S8 32) (ix1 e) = BitVec.ofNat 32 (k e.val))

include hk hc

theorem comb0 (p : Fin 69632) : (val_main_v10 (F := Ideal) x0 : FVec Ideal S69632 .f32) (ix1 p) = mine k 0 p := by
  unfold val_main_v10 val_main_call0_v1 val_main_call0_v0 val_main_cst_2 val_main_cst_1 val_main_v9 val_main_v8 val_main_v7 val_main_v6 val_main_c_0 val_main_v5 val_main_v4 val_main_v3 val_main_v2 val_main_c val_main_v0
  pointwise
  exact mine_word k hk (by decide) p _ _ rfl (hc 0)

theorem start1 : (val_main_v33 (F := Ideal) x0 : IVec S_ 32) ix0 = BitVec.ofNat 32 (st k 1) :=
  start_step k hk (val_main_c_7 (F := Ideal)) (val_main_v28 (F := Ideal) x0) 0 rfl ((by
    unfold val_main_v28 val_main_v27
    pointwise : (val_main_v28 (F := Ideal) x0 : IVec S_ 32) ix0 = (x0 : IVec S8 32) (ix1 0)).trans (hc 0))

theorem comb1 (p : Fin 69632) : (val_main_v42 (F := Ideal) x0 : FVec Ideal S69632 .f32) (ix1 p) = mine k 1 p := by
  unfold val_main_v42 val_main_call3_v1 val_main_call3_v0 val_main_cst_9 val_main_cst_8 val_main_v41 val_main_v40 val_main_v39 val_main_v38 val_main_v37 val_main_v36 val_main_v35 val_main_v34 val_main_v0
  have hs := start1 x0 k hk hc
  generalize val_main_v33 (F := Ideal) x0 = s at hs ⊢
  pointwise
  exact mine_word k hk (by decide) p _ _ hs (hc 1)

theorem start2 : (val_main_v65 (F := Ideal) x0 : IVec S_ 32) ix0 = BitVec.ofNat 32 (st k 2) :=
  start_step k hk (val_main_v33 (F := Ideal) x0) (val_main_v60 (F := Ideal) x0) 1 (start1 x0 k hk hc) ((by
    unfold val_main_v60 val_main_v59
    pointwise : (val_main_v60 (F := Ideal) x0 : IVec S_ 32) ix0 = (x0 : IVec S8 32) (ix1 1)).trans (hc 1))

theorem comb2 (p : Fin 69632) : (val_main_v74 (F := Ideal) x0 : FVec Ideal S69632 .f32) (ix1 p) = mine k 2 p := by
  unfold val_main_v74 val_main_call6_v1 val_main_call6_v0 val_main_cst_15 val_main_cst_14 val_main_v73 val_main_v72 val_main_v71 val_main_v70 val_main_v69 val_main_v68 val_main_v67 val_main_v66 val_main_v0
  have hs := start2 x0 k hk hc
  generalize val_main_v65 (F := Ideal) x0 = s at hs ⊢
  pointwise
  exact mine_word k hk (by decide) p _ _ hs (hc 2)

theorem start3 : (val_main_v97 (F := Ideal) x0 : IVec S_ 32) ix0 = BitVec.ofNat 32 (st k 3) :=
  start_step k hk (val_main_v65 (F := Ideal) x0) (val_main_v92 (F := Ideal) x0) 2 (start2 x0 k hk hc) ((by
    unfold val_main_v92 val_main_v91
    pointwise : (val_main_v92 (F := Ideal) x0 : IVec S_ 32) ix0 = (x0 : IVec S8 32) (ix1 2)).trans (hc 2))

theorem comb3 (p : Fin 69632) : (val_main_v106 (F := Ideal) x0 : FVec Ideal S69632 .f32) (ix1 p) = mine k 3 p := by
  unfold val_main_v106 val_main_call9_v1 val_main_call9_v0 val_main_cst_21 val_main_cst_20 val_main_v105 val_main_v104 val_main_v103 val_main_v102 val_main_v101 val_main_v100 val_main_v99 val_main_v98 val_main_v0
  have hs := start3 x0 k hk hc
  generalize val_main_v97 (F := Ideal) x0 = s at hs ⊢
  pointwise
  exact mine_word k hk (by decide) p _ _ hs (hc 3)

theorem start4 : (val_main_v129 (F := Ideal) x0 : IVec S_ 32) ix0 = BitVec.ofNat 32 (st k 4) :=
  start_step k hk (val_main_v97 (F := Ideal) x0) (val_main_v124 (F := Ideal) x0) 3 (start3 x0 k hk hc) ((by
    unfold val_main_v124 val_main_v123
    pointwise : (val_main_v124 (F := Ideal) x0 : IVec S_ 32) ix0 = (x0 : IVec S8 32) (ix1 3)).trans (hc 3))

theorem comb4 (p : Fin 69632) : (val_main_v138 (F := Ideal) x0 : FVec Ideal S69632 .f32) (ix1 p) = mine k 4 p := by
  unfold val_main_v138 val_main_call12_v1 val_main_call12_v0 val_main_cst_27 val_main_cst_26 val_main_v137 val_main_v136 val_main_v135 val_main_v134 val_main_v133 val_main_v132 val_main_v131 val_main_v130 val_main_v0
  have hs := start4 x0 k hk hc
  generalize val_main_v129 (F := Ideal) x0 = s at hs ⊢
  pointwise
  exact mine_word k hk (by decide) p _ _ hs (hc 4)

theorem start5 : (val_main_v161 (F := Ideal) x0 : IVec S_ 32) ix0 = BitVec.ofNat 32 (st k 5) :=
  start_step k hk (val_main_v129 (F := Ideal) x0) (val_main_v156 (F := Ideal) x0) 4 (start4 x0 k hk hc) ((by
    unfold val_main_v156 val_main_v155
    pointwise : (val_main_v156 (F := Ideal) x0 : IVec S_ 32) ix0 = (x0 : IVec S8 32) (ix1 4)).trans (hc 4))

theorem comb5 (p : Fin 69632) : (val_main_v170 (F := Ideal) x0 : FVec Ideal S69632 .f32) (ix1 p) = mine k 5 p := by
  unfold val_main_v170 val_main_call15_v1 val_main_call15_v0 val_main_cst_33 val_main_cst_32 val_main_v169 val_main_v168 val_main_v167 val_main_v166 val_main_v165 val_main_v164 val_main_v163 val_main_v162 val_main_v0
  have hs := start5 x0 k hk hc
  generalize val_main_v161 (F := Ideal) x0 = s at hs ⊢
  pointwise
  exact mine_word k hk (by decide) p _ _ hs (hc 5)

theorem start6 : (val_main_v193 (F := Ideal) x0 : IVec S_ 32) ix0 = BitVec.ofNat 32 (st k 6) :=
  start_step k hk (val_main_v161 (F := Ideal) x0) (val_main_v188 (F := Ideal) x0) 5 (start5 x0 k hk hc) ((by
    unfold val_main_v188 val_main_v187
    pointwise : (val_main_v188 (F := Ideal) x0 : IVec S_ 32) ix0 = (x0 : IVec S8 32) (ix1 5)).trans (hc 5))

theorem comb6 (p : Fin 69632) : (val_main_v202 (F := Ideal) x0 : FVec Ideal S69632 .f32) (ix1 p) = mine k 6 p := by
  unfold val_main_v202 val_main_call18_v1 val_main_call18_v0 val_main_cst_39 val_main_cst_38 val_main_v201 val_main_v200 val_main_v199 val_main_v198 val_main_v197 val_main_v196 val_main_v195 val_main_v194 val_main_v0
  have hs := start6 x0 k hk hc
  generalize val_main_v193 (F := Ideal) x0 = s at hs ⊢
  pointwise
  exact mine_word k hk (by decide) p _ _ hs (hc 6)

theorem start7 : (val_main_v225 (F := Ideal) x0 : IVec S_ 32) ix0 = BitVec.ofNat 32 (st k 7) :=
  start_step k hk (val_main_v193 (F := Ideal) x0) (val_main_v220 (F := Ideal) x0) 6 (start6 x0 k hk hc) ((by
    unfold val_main_v220 val_main_v219
    pointwise : (val_main_v220 (F := Ideal) x0 : IVec S_ 32) ix0 = (x0 : IVec S8 32) (ix1 6)).trans (hc 6))

theorem comb7 (p : Fin 69632) : (val_main_v234 (F := Ideal) x0 : FVec Ideal S69632 .f32) (ix1 p) = mine k 7 p := by
  unfold val_main_v234 val_main_call21_v1 val_main_call21_v0 val_main_cst_45 val_main_cst_44 val_main_v233 val_main_v232 val_main_v231 val_main_v230 val_main_v229 val_main_v228 val_main_v227 val_main_v226 val_main_v0
  have hs := start7 x0 k hk hc
  generalize val_main_v225 (F := Ideal) x0 = s at hs ⊢
  pointwise
  exact mine_word k hk (by decide) p _ _ hs (hc 7)

/-- The reference's array is the experts' output. -/
theorem final_eq (t0 t1 : IVec (⟨1, ![136]⟩ : Shape) 32) (t2 : IVec (⟨1, ![1]⟩ : Shape) 32)
    (hE : ∀ t : Fin 136, t0 (ix1 t) = BitVec.ofNat 32 (min (below k t.val) 7))
    (hV : ∀ (t : Fin 136) (l : ℕ), l < 512 → IntOp.cmpi .slt (BitVec.ofNat 32 l) (t1 (ix1 t))
      = BitVec.ofBool (decide (512 * t.val + l < st k (min (below k t.val) 7) + k (min (below k t.val) 7))))
    (hU : ∀ t : Fin 136, IntOp.cmpi .slt (BitVec.ofNat 32 t.val) (t2 (ix1 (0 : Fin 1))) = BitVec.ofBool (decide (t.val < en k 7 / 512))) :
    (val_main_v250 (F := Ideal) x0 x1 x2 x3 x4 : FVec Ideal S69632x1024 .f32) = result t0 t1 t2 x1 x2 x3 x4 := by
  funext i
  obtain ⟨p, d, rfl⟩ : ∃ (p : Fin 69632) (d : Fin 1024), i = (ix2 p d : S69632x1024.Idx) := ⟨i 0, i 1, by
    funext a
    match a with
    | ⟨0, _⟩ => rfl
    | ⟨1, _⟩ => rfl⟩
  rw [step7, step6, step5, step4, step3, step2, step1, step0, base, comb0 x0 k hk hc, comb1 x0 k hk hc, comb2 x0 k hk hc, comb3 x0 k hk hc,
    comb4 x0 k hk hc, comb5 x0 k hk hc, comb6 x0 k hk hc, comb7 x0 k hk hc]
  have hb : (expertOf t0 (tileOf p)).val = min (below k (p.val / 512)) 7 := by
    have h7 := min_le_right (below k (p.val / 512)) 7
    show (t0 (ix1 (tileOf p))).toNat % 8 = _
    rw [hE, BitVec.toNat_ofNat]
    show min (below k (p.val / 512)) 7 % 2 ^ 32 % 8 = _
    omega
  refine parts_sum _ (expertOf t0 (tileOf p)) (fun e => mine k e.val p * through x1 x2 x3 x4 e p d)
    (fun e => mine_own k e (expertOf t0 (tileOf p)) p hb (live t1 t2 p) ?_ (fun e => through x1 x2 x3 x4 e p d))
  have h1 := hU (tileOf p)
  have h2 := hV (tileOf p) (laneOf p).val (laneOf p).isLt
  have h3 : 512 * (tileOf p).val + (laneOf p).val = p.val := by
    show 512 * (p.val / 512) + p.val % 512 = p.val
    omega
  rw [h3] at h2
  unfold live used
  rw [h1, h2, hb]
  rfl

end Counts

end Cert.Experts.Ref

end
-- ==== Proof.EAlg.lean ====
/-
  The experts' claims: the programs run to their ends, and the kernel and the reference leave the same array.
-/
module

public import proofs.«01_k».proof.Defs
public import proofs.«01_k».proof.Proof.EArr
public import proofs.«01_k».proof.Proof.ETab
public import proofs.«01_k».proof.Proof.ERef
public import proofs.«01_k».proof.Proof.BTab
public import proofs.«01_k».proof.Proof.Gen.Pre_counted
public import proofs.«01_k».proof.Proof.Gen.Reference2Ideal.Run

@[expose] public section

set_option maxRecDepth 16384

noncomputable section

namespace Cert.Experts

open Idealize.ShloMosaic Idealize.ShloMosaic.TcCoe Idealize.SL.Sem

theorem count_le {w : BitVec 32} (h : IntOp.andi (IntOp.cmpi .sge w 0#32) (IntOp.cmpi .sle w 65536#32) = 1#1) : w.toNat ≤ 65536 := by
  have h' : BitVec.ofBool ((0#32).sle w) &&& BitVec.ofBool (w.sle 65536#32) = 1#1 := h
  have h1 : (0#32).sle w = true := by
    cases hb : (0#32).sle w with
    | true => rfl
    | false => rw [hb] at h'; revert h'; cases w.sle 65536#32 <;> decide
  have h2 : w.sle 65536#32 = true := by
    cases hb : w.sle 65536#32 with
    | true => rfl
    | false => rw [hb] at h'; revert h'; cases (0#32).sle w <;> decide
  rw [BitVec.sle_iff_toInt_le] at h1 h2
  have e1 : (65536#32).toInt = 65536 := by decide
  have e0 : (0#32).toInt = 0 := by decide
  rw [e0] at h1; rw [e1] at h2
  rw [BitVec.toInt_eq_toNat_cond] at h1 h2
  split at h1 <;> split at h2 <;> omega

/-- Counts that the precondition holds of are at most 65536. -/
theorem counted {x : IVec (⟨1, ![8]⟩ : Shape) 32} {hb : (⟨0, ![]⟩ : Shape).BroadcastsInDim ⟨1, ![8]⟩ (![] : Fin 0 → Fin 1)}
    (h : andi (cmpi .sge x (broadcastInDim ⟨1, ![8]⟩ ![] hb (constantI ⟨0, ![]⟩ 32 0#32)))
      (cmpi .sle x (broadcastInDim ⟨1, ![8]⟩ ![] hb (constantI ⟨0, ![]⟩ 32 65536#32))) = fun _ => 1#1)
    (i : (⟨1, ![8]⟩ : Shape).Idx) : (x i).toNat ≤ 65536 :=
  count_le (congrFun h i)

theorem frame_kernel : Cert.quiescent_Kernel2 (hKernel2 := Cert.Kernel2.Gen.facts) :=
  fun m g _ => Cert.Kernel2.Gen.frame_ok m g (Cert.Kernel2.Gen.ok m)

theorem frame_kernelIdeal : Cert.quiescent_Kernel2Ideal (hKernel2Ideal := Cert.Kernel2Ideal.Gen.facts) :=
  fun m g _ => Cert.Kernel2Ideal.Gen.frame_ok m g (Cert.Kernel2Ideal.Gen.ok m)

theorem frame_reference : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

section Run

open Cert.Kernel2Ideal Cert.Kernel2Ideal.Gen

/-- The kernel's run: its array is the experts' output, its arguments are unchanged. -/
theorem run_output (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v43) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  have hO : Ok m := ok m
  (θ_run defs _ _).mono (fun _ hr c => ⟨((hr c).1 4).trans (final_result m c hO (table_lt m c)),
      ((hr c).2 main_arg0 (by decide : main_arg0 ∈ Pipeline.restRefs sig spec0)).trans (V_main_arg0 m c),
      ((hr c).1 0).trans (((dats m hO 0 c).arrAt_in 0 rfl _).trans ((A_eq m hO c 0).trans (V_main_arg1 m c))),
      ((hr c).2 main_arg2 (by decide : main_arg2 ∈ Pipeline.restRefs sig spec0)).trans (V_main_arg2 m c),
      ((hr c).2 main_arg3 (by decide : main_arg3 ∈ Pipeline.restRefs sig spec0)).trans (V_main_arg3 m c),
      ((hr c).2 main_arg4 (by decide : main_arg4 ∈ Pipeline.restRefs sig spec0)).trans (V_main_arg4 m c)⟩) (run_main m ρ hO)

/-- The reference's array on the kernel's arguments is the experts' output. -/
theorem reference_output (m : (ℓ : Loc nD τ sig) → Buf (Elt Ideal) ℓ) (c : Dev nD)
    (h : ∀ i : S8.Idx, ((m ((c.tc : Thread nD τ).loc main_arg0) : IVec S8 32) i).toNat ≤ 65536) :
    (Cert.Reference2Ideal.Read.val_main_v250 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      : FVec Ideal S69632x1024 .f32) = output m c := by
  have hk : ∀ e : ℕ, (if h : e < 8 then ((m ((c.tc : Thread nD τ).loc main_arg0) : IVec S8 32) (ix1 ⟨e, h⟩)).toNat else 0) ≤ 65536 := fun e => by
    split
    · exact h _
    · exact Nat.zero_le _
  have hc : ∀ e : Fin 8, (m ((c.tc : Thread nD τ).loc main_arg0) : IVec S8 32) (ix1 e)
      = BitVec.ofNat 32 (if h : e.val < 8 then ((m ((c.tc : Thread nD τ).loc main_arg0) : IVec S8 32) (ix1 ⟨e.val, h⟩)).toNat else 0) := fun e => by
    rw [dif_pos e.isLt]
    exact BitVec.eq_of_toNat_eq (by rw [BitVec.toNat_ofNat]; exact (Nat.mod_eq_of_lt (BitVec.isLt _)).symm)
  refine Ref.final_eq _ _ _ _ _ _ hk hc _ _ _ (fun t => ?_) (fun t l hl => ?_) (fun t => ?_)
  · rw [V_v20]
    exact Cert.Tables.expertW_ap _ _ _ _ _ _ _ _ _ _ _ _ _ hk hc t
  · rw [V_v37]
    exact Cert.Tables.validW_ap _ _ _ _ _ _ _ _ _ _ _ _ _ _ hk hc rfl rfl rfl rfl t hl
  · rw [V_v39]
    exact Cert.Tables.usedW_ap _ _ _ _ _ _ _ _ hk hc t

end Run

theorem algebraic : Cert.algebraic_Kernel2Ideal_Reference2Ideal_pre_counted (hKernel2Ideal := Cert.Kernel2Ideal.Gen.facts)
    (hReference2Ideal := Cert.Reference2Ideal.Gen.facts) (hPre_counted := Cert.Pre_counted.Gen.facts) := by
  intro m g m' g' hpre hag
  refine ⟨fun c => output m c, run_output m g,
    (θ_run Cert.Reference2Ideal.defs _ _).mono (fun r h c =>
      ⟨((h c).1.trans (Cert.Reference2Ideal.Read.val_main_v250_eq _)).trans ?_, (h c).2⟩) (Cert.Reference2Ideal.Value.run m' g')⟩
  obtain ⟨e0, e1, e2, e3, e4⟩ := hag c
  refine Eq.trans ?_ (reference_output m c (counted (hpre c)))
  rw [← e0, ← e1, ← e2, ← e3, ← e4]

end Cert.Experts

end
-- ==== Proof.Online.lean ====
/-
  The online softmax over the real numbers, free of any program.

  A row of attention is summed chunk by chunk.  The running state is a shift `m` and, per lane, an accumulator `a`; both
  are extended reals in the program and both are real along the whole run.  The invariant (`Online m a A`) says that `a`
  is the unshifted sum `A = Σ 2^score · value` scaled by `2^(-m)`.  Nothing asks that `m` be the maximum: any real shift
  gives the same quotient in the end, so the maximum's only property used here is that it is real.
-/
module

public import Idealize.ShloMosaic.PureOps.Ideal.Laws
public import Idealize.ShloMosaic.Lib.Pointwise

@[expose] public section

noncomputable section

namespace Cert.Attn

open Idealize.ShloMosaic

/-- The state of a row: the shift `m` is a real number `μ` and the accumulator of lane `d` is `2^(-μ) · A d`. -/
def Online {D : Type} (m : EReal) (a : D → EReal) (A : D → ℝ) : Prop :=
  ∃ μ : ℝ, m = (μ : EReal) ∧ ∀ d, a d = ((Real.rpow 2 (-μ) * A d : ℝ) : EReal)

/-- The sum of `2^score · value` over a finite set of keys, per lane. -/
def mass {K D : Type} [Fintype K] (s : K → ℝ) (v : K → D → ℝ) (d : D) : ℝ := ∑ j, Real.rpow 2 (s j) * v j d

theorem coe_sum {K : Type} [Fintype K] (f : K → ℝ) : (∑ j, ((f j : ℝ) : EReal)) = ((∑ j, f j : ℝ) : EReal) := by
  classical
  refine Finset.induction_on (Finset.univ : Finset K) (by simp) fun j t hj ih => ?_
  rw [Finset.sum_insert hj, Finset.sum_insert hj, ih, EReal.coe_add]

/-- The largest of finitely many real numbers, folded from `-∞` over at least one, is real. -/
theorem fold_max_real {K : Type} [Fintype K] [Nonempty K] (s : K → ℝ) :
    ∃ μ : ℝ, (Finset.univ.fold max (⊥ : EReal) fun j => (s j : EReal)) = (μ : EReal) := by
  classical
  have h : ∀ t : Finset K, t.Nonempty → ∃ μ : ℝ, (t.fold max (⊥ : EReal) fun j => (s j : EReal)) = (μ : EReal) := by
    intro t
    refine Finset.induction_on t (fun h => absurd h (by simp)) fun j t hj ih _ => ?_
    rw [Finset.fold_insert hj]
    rcases t.eq_empty_or_nonempty with rfl | ht
    · exact ⟨s j, by simp⟩
    · obtain ⟨μ, hμ⟩ := ih ht
      rw [hμ]
      exact ⟨max (s j) μ, (EReal.coe_strictMono.monotone.map_max).symm⟩
  exact h _ Finset.univ_nonempty

theorem exp2_sub (x y : ℝ) : Ideal.exp2 ((x : EReal) - (y : EReal)) = ((Real.rpow 2 (-y) * Real.rpow 2 x : ℝ) : EReal) := by
  rw [← EReal.coe_sub, Ideal.exp2_coe]
  congr 1
  show (2 : ℝ) ^ (x - y) = (2 : ℝ) ^ (-y) * (2 : ℝ) ^ x
  rw [← Real.rpow_add (by norm_num)]; congr 1; ring

/-- A chunk's weighted values at the shift `μ`. -/
theorem chunk_sum {K D : Type} [Fintype K] (s : K → ℝ) (v : K → D → ℝ) (μ : ℝ) (d : D) :
    (∑ j, Ideal.exp2 ((s j : EReal) - (μ : EReal)) * (v j d : EReal)) = ((Real.rpow 2 (-μ) * mass s v d : ℝ) : EReal) := by
  rw [mass, Finset.mul_sum, ← coe_sum]
  refine Finset.sum_congr rfl fun j _ => ?_
  rw [exp2_sub, ← EReal.coe_mul, mul_assoc]

/-- The first chunk starts the state. -/
theorem Online.start {K D : Type} [Fintype K] [Nonempty K] (s : K → ℝ) (v : K → D → ℝ) {m : EReal} {a : D → EReal}
    (hm : m = Finset.univ.fold max (⊥ : EReal) fun j => (s j : EReal))
    (ha : ∀ d, a d = ∑ j, Ideal.exp2 ((s j : EReal) - m) * (v j d : EReal)) : Online m a (mass s v) := by
  obtain ⟨μ, hμ⟩ := fold_max_real s
  exact ⟨μ, hm.trans hμ, fun d => by rw [ha, hm, hμ, chunk_sum]⟩

/-- A further chunk rescales what was summed and adds its own. -/
theorem Online.step {K D : Type} [Fintype K] [Nonempty K] (s : K → ℝ) (v : K → D → ℝ) {m m' : EReal} {a a' : D → EReal}
    {A : D → ℝ} (h : Online m a A)
    (hm : m' = max m (Finset.univ.fold max (⊥ : EReal) fun j => (s j : EReal)))
    (ha : ∀ d, a' d = Ideal.exp2 (m - m') * a d + ∑ j, Ideal.exp2 ((s j : EReal) - m') * (v j d : EReal)) :
    Online m' a' (fun d => A d + mass s v d) := by
  obtain ⟨μ, rfl, hA⟩ := h
  obtain ⟨ν, hν⟩ := fold_max_real s
  rw [hν, ← (EReal.coe_strictMono.monotone.map_max)] at hm
  refine ⟨max μ ν, hm, fun d => ?_⟩
  rw [ha, hm, hA, chunk_sum, exp2_sub, ← EReal.coe_mul, ← EReal.coe_add]
  congr 1
  have h1 : Real.rpow 2 μ * Real.rpow 2 (-μ) = 1 := by
    show (2 : ℝ) ^ μ * (2 : ℝ) ^ (-μ) = 1
    rw [← Real.rpow_add (by norm_num)]; simp
  linear_combination (Real.rpow 2 (-(max μ ν)) * A d) * h1

/-- The quotient at the end: the shift drops out. -/
theorem Online.quot {D : Type} {m : EReal} {a : D → EReal} {A : D → ℝ} (h : Online m a A) (d e : D) (he : A e ≠ 0) :
    a d * Ideal.div 1 (a e) = ((A d / A e : ℝ) : EReal) := by
  obtain ⟨μ, -, hA⟩ := h
  have h2 : Real.rpow 2 (-μ) ≠ 0 := (Real.rpow_pos_of_pos (by norm_num : (0 : ℝ) < 2) _).ne'
  rw [hA, hA, Ideal.div_coe (mul_ne_zero h2 he), one_mul, ← EReal.coe_mul]
  congr 1
  field_simp

end Cert.Attn

end
-- ==== Proof.Steps.lean ====
/-
  What one block of the kernel computes, as a recursion over chunks of keys.

  The printed kernel writes every chunk's step out; here they are one function (`adv`), applied to the chunks of keys and
  values the block holds for a head.  Everything here is by unfolding, at any reading of the floats.
-/
module

public import proofs.«01_k».proof.Proof.Gen.KernelIdeal.Value
public import Idealize.ShloMosaic.Lib.Pipeline.Value
public import Idealize.ShloMosaic.Lib.Tactic
public import Idealize.ShloMosaic.Lib.Pipeline.ValueKit.Tiles
public import Idealize.ShloMosaic.Lib.Pointwise

@[expose] public section

set_option maxRecDepth 16384

noncomputable section

namespace Cert.Attn

open Idealize.ShloMosaic Idealize.ShloMosaic.TcCoe Idealize.SL.Sem Cert.KernelIdeal Cert.KernelIdeal.Gen

variable {F : FTy → Type} [FloatOps F]

/-- A head's running state: the shift per row, and the accumulator per row and lane. -/
abbrev St (F : FTy → Type) : Type := FVec F S1024x1 .f32 × FVec F S1024x128 .f32

/-- One chunk's step. -/
def adv (q : FVec F S1024x128 .bf16) (s : St F) (k : Vec F S1x1x128x1024 .bf16) (v : Vec F S1x1x1024x128 .bf16) : St F :=
  (k0_pay3 q s.1 k, k0_pay4 q s.1 s.2 k v)

/-- The state after the context's keys. -/
def start (q : Vec F S1x1x1024x128 .bf16) (k : Vec F S1x1x128x256 .bf16) (v : Vec F S1x1x256x128 .bf16) : St F :=
  (k0_pay36 q k, k0_pay37 q k v)

/-- A head's rows of the query block. -/
def queries (x : Vec F S1x2x1024x128 .bf16) (h : Fin 2) : Vec F S1x1x1024x128 .bf16 :=
  fun j => x (ix4 0 h (j 2) (j 3))

/-- A head's context keys. -/
def ctxKeys (x : Vec F S1x2x128x256 .bf16) (h : Fin 2) : Vec F S1x1x128x256 .bf16 :=
  fun j => x (ix4 0 h (j 2) (j 3))

/-- A head's context values. -/
def ctxVals (x : Vec F S1x2x256x128 .bf16) (h : Fin 2) : Vec F S1x1x256x128 .bf16 :=
  fun j => x (ix4 0 h (j 2) (j 3))

/-- The position `o + j` of a chunk's key. -/
def pos (o : ℕ) (j : Fin 1024) : Fin 16384 := ⟨(o + j.val) % 16384, Nat.mod_lt _ (by decide)⟩

/-- A head's chunk of keys that starts at position `o`. -/
def keys (x : Vec F S1x2x128x16384 .bf16) (h : Fin 2) (o : ℕ) : Vec F S1x1x128x1024 .bf16 :=
  fun j => x (ix4 0 h (j 2) (pos o (j 3)))

/-- A head's chunk of values that starts at position `o`. -/
def vals (x : Vec F S1x2x16384x128 .bf16) (h : Fin 2) (o : ℕ) : Vec F S1x1x1024x128 .bf16 :=
  fun j => x (ix4 0 h (pos o (j 2)) (j 3))

/-- A head's state after `n` chunks from position `o`. -/
def run (x3 : Vec F S1x2x128x16384 .bf16) (x4 : Vec F S1x2x16384x128 .bf16) (h : Fin 2) (q : FVec F S1024x128 .bf16)
    (o : ℕ) (s : St F) : ℕ → St F
  | 0 => s
  | n + 1 => adv q (run x3 x4 h q o s n) (keys x3 h (o + 1024 * n)) (vals x4 h (o + 1024 * n))

/-- A head's state after all its keys. -/
def head (x0 : Vec F S1x2x1024x128 .bf16) (x1 : Vec F S1x2x128x256 .bf16) (x2 : Vec F S1x2x256x128 .bf16)
    (x3 : Vec F S1x2x128x16384 .bf16) (x4 : Vec F S1x2x16384x128 .bf16) (h : Fin 2) : St F :=
  run x3 x4 h (k0_pay33 (queries x0 h)) 8192
    (run x3 x4 h (k0_pay33 (queries x0 h)) 0 (start (queries x0 h) (ctxKeys x1 h) (ctxVals x2 h)) 8) 8

/-! The loads are these chunks. -/

theorem read_keys {m : Memref sig .tc .vmem S1x2x128x16384 .bf16} (hm : m.IsWhole) (x : Vec F S1x2x128x16384 .bf16)
    {off : Fin 4 → ℕ} (h : Fin 2) (o : ℕ) (ho : off = ![0, h.val, 0, o])
    (inb : ∀ a, off a + S1x1x128x1024.size a ≤ S1x2x128x16384.size a) :
    View.readAt (Elt F) m.view (Rect.unit (s := S1x2x128x16384) off S1x1x128x1024.size inb).toLoadRect (hm.unread x)
      = keys x h o := by
  subst ho
  rw [View.readAt_eq_ld, hm.read_unread]
  funext j
  refine Idealize.ShloMosaic.View.ld_unit_apply_of x _ _ inb j _ fun a => ?_
  have h3 : o + 1024 ≤ 16384 := inb 3
  have hj : (j 3).val < 1024 := (j 3).isLt
  have h0 : (j 0).val < 1 := (j 0).isLt
  have h1 : (j 1).val < 1 := (j 1).isLt
  match a with
  | ⟨0, _⟩ => show 0 = 0 + (j 0).val; omega
  | ⟨1, _⟩ => show h.val = h.val + (j 1).val; omega
  | ⟨2, _⟩ => show (j 2).val = 0 + (j 2).val; omega
  | ⟨3, _⟩ => show (o + (j 3).val) % 16384 = o + (j 3).val; omega

theorem read_vals {m : Memref sig .tc .vmem S1x2x16384x128 .bf16} (hm : m.IsWhole) (x : Vec F S1x2x16384x128 .bf16)
    {off : Fin 4 → ℕ} (h : Fin 2) (o : ℕ) (ho : off = ![0, h.val, o, 0])
    (inb : ∀ a, off a + S1x1x1024x128.size a ≤ S1x2x16384x128.size a) :
    View.readAt (Elt F) m.view (Rect.unit (s := S1x2x16384x128) off S1x1x1024x128.size inb).toLoadRect (hm.unread x)
      = vals x h o := by
  subst ho
  rw [View.readAt_eq_ld, hm.read_unread]
  funext j
  refine Idealize.ShloMosaic.View.ld_unit_apply_of x _ _ inb j _ fun a => ?_
  have h3 : o + 1024 ≤ 16384 := inb 2
  have hj : (j 2).val < 1024 := (j 2).isLt
  have h0 : (j 0).val < 1 := (j 0).isLt
  have h1 : (j 1).val < 1 := (j 1).isLt
  match a with
  | ⟨0, _⟩ => show 0 = 0 + (j 0).val; omega
  | ⟨1, _⟩ => show h.val = h.val + (j 1).val; omega
  | ⟨2, _⟩ => show (o + (j 2).val) % 16384 = o + (j 2).val; omega
  | ⟨3, _⟩ => show (j 3).val = 0 + (j 3).val; omega

/-- A head's slab of a window of two heads, read whole. -/
theorem read_slab {A B : ℕ} {m : Memref sig .tc .vmem ⟨4, ![1, 2, A, B]⟩ .bf16} (hm : m.IsWhole)
    (x : Vec F ⟨4, ![1, 2, A, B]⟩ .bf16) (h : ℕ)
    (inb : ∀ a, (![0, h, 0, 0] : Fin 4 → ℕ) a + (![1, 1, A, B] : Fin 4 → ℕ) a ≤ (⟨4, ![1, 2, A, B]⟩ : Shape).size a) :
    View.readAt (Elt F) m.view
        (Rect.unit (s := ⟨4, ![1, 2, A, B]⟩) (![0, h, 0, 0] : Fin 4 → ℕ) (![1, 1, A, B] : Fin 4 → ℕ) inb).toLoadRect (hm.unread x)
      = (fun j => x (ix4 0 ⟨h, inb 1⟩ (j 2) (j 3)) : Vec F ⟨4, ![1, 1, A, B]⟩ .bf16) := by
  rw [View.readAt_eq_ld, hm.read_unread]
  funext j
  refine Idealize.ShloMosaic.View.ld_unit_apply_of x _ _ inb j _ fun a => ?_
  have h0 : (j 0).val < 1 := (j 0).isLt
  have h1 : (j 1).val < 1 := (j 1).isLt
  match a with
  | ⟨0, _⟩ => show 0 = 0 + (j 0).val; omega
  | ⟨1, _⟩ => show h = h + (j 1).val; omega
  | ⟨2, _⟩ => show (j 2).val = 0 + (j 2).val; omega
  | ⟨3, _⟩ => show (j 3).val = 0 + (j 3).val; omega

/-! The positions the loop's trip reads its chunks at: the printed offsets, at the chunk's literal. -/

theorem off_pos (k : Fin k0_t1_loop.trips) (n : ℕ) (hn : n ≤ 3072) :
    BitVec.toNat (Scalar.indexCast (Scalar.addi (Scalar.addi 8192#32 (Scalar.muli (Scf.iv 0#32 1#32 k.val) 4096#32))
      (BitVec.ofNat 32 n))) = 8192 + 4096 * k.val + n := by
  obtain ⟨k, hk⟩ := k
  have hk : k < 2 := hk
  have e : BitVec.toNat (Scalar.indexCast (Scalar.addi (Scalar.addi 8192#32 (Scalar.muli (Scf.iv 0#32 1#32 k) 4096#32))
      (BitVec.ofNat 32 n))) = ((8192#32 + (0#32 + BitVec.ofNat 32 k * 1#32) * 4096#32) + BitVec.ofNat 32 n).toNat := rfl
  rw [e]
  simp only [BitVec.toNat_add, BitVec.toNat_mul, BitVec.toNat_ofNat]
  omega

/-- The loop's trip is four steps of each head. -/
theorem trip_eq (c : Dev nD) (𝒱 : Variants) (bd : Option 𝒱.V) (i : grid0.Coords) (arg3 : Memref sig .tc .vmem S1x2x1024x128 .bf16) (harg3 : arg3.IsWhole) (arg4 : Memref sig .tc .vmem S1x2x128x256 .bf16) (harg4 : arg4.IsWhole) (arg5 : Memref sig .tc .vmem S1x2x256x128 .bf16) (harg5 : arg5.IsWhole) (arg6 : Memref sig .tc .vmem S1x2x128x16384 .bf16) (harg6 : arg6.IsWhole) (arg7 : Memref sig .tc .vmem S1x2x16384x128 .bf16) (harg7 : arg7.IsWhole) (arg8 : Memref sig .tc .vmem S1x1024x128 .bf16) (harg8 : arg8.IsWhole)
    (v1 v3 : FVec F S1024x128 .bf16) (v251 : FVec F S1024x1 .f32) (v261 : FVec F S1024x128 .f32) (v269 : FVec F S1024x1 .f32) (v279 : FVec F S1024x128 .f32) (v281 : FVec F S128x1024 .bf16) (v283 : FVec F S1024x128 .bf16) (cst_182 : FVec F S1024x1024 .f32)
    (x3 : Vec F S1x2x128x16384 .bf16) (x4 : Vec F S1x2x16384x128 .bf16) (k : Fin k0_t1_loop.trips) (s t : St F) :
    tripR_k0_t1 (F := F) 𝒱 c bd i arg3 harg3 arg4 harg4 arg5 harg5 arg6 harg6 arg7 harg7 arg8 harg8 v1 v3 v251 v261 v269 v279 v281 v283 cst_182 (harg6.unread x3) (harg7.unread x4) k (s.1, s.2, t.1, t.2)
      = ((run x3 x4 0 v1 (8192 + 4096 * k.val) s 4).1, (run x3 x4 0 v1 (8192 + 4096 * k.val) s 4).2,
         (run x3 x4 1 v3 (8192 + 4096 * k.val) t 4).1, (run x3 x4 1 v3 (8192 + 4096 * k.val) t 4).2) := by
  have K0 : ∀ (n : ℕ) (hn : n ≤ 3072) inb, View.readAt (Elt F) arg6.view
        (Rect.unit (s := S1x2x128x16384) (k0_off1 k (BitVec.ofNat 32 n)) S1x1x128x1024.size inb).toLoadRect (harg6.unread x3)
      = keys x3 0 (8192 + 4096 * k.val + n) := fun n hn inb =>
    read_keys harg6 x3 0 _ (by rw [← off_pos k n hn]; rfl) inb
  have K1 : ∀ (n : ℕ) (hn : n ≤ 3072) inb, View.readAt (Elt F) arg6.view
        (Rect.unit (s := S1x2x128x16384) (k0_off3 k (BitVec.ofNat 32 n)) S1x1x128x1024.size inb).toLoadRect (harg6.unread x3)
      = keys x3 1 (8192 + 4096 * k.val + n) := fun n hn inb =>
    read_keys harg6 x3 1 _ (by rw [← off_pos k n hn]; rfl) inb
  have V0 : ∀ (n : ℕ) (hn : n ≤ 3072) inb, View.readAt (Elt F) arg7.view
        (Rect.unit (s := S1x2x16384x128) (k0_off2 k (BitVec.ofNat 32 n)) S1x1x1024x128.size inb).toLoadRect (harg7.unread x4)
      = vals x4 0 (8192 + 4096 * k.val + n) := fun n hn inb =>
    read_vals harg7 x4 0 _ (by rw [← off_pos k n hn]; rfl) inb
  have V1 : ∀ (n : ℕ) (hn : n ≤ 3072) inb, View.readAt (Elt F) arg7.view
        (Rect.unit (s := S1x2x16384x128) (k0_off4 k (BitVec.ofNat 32 n)) S1x1x1024x128.size inb).toLoadRect (harg7.unread x4)
      = vals x4 1 (8192 + 4096 * k.val + n) := fun n hn inb =>
    read_vals harg7 x4 1 _ (by rw [← off_pos k n hn]; rfl) inb
  unfold tripR_k0_t1 trip_k0_t1
  simp (disch := decide) only [trip_k0_t1.sl.r, trip_k0_t1.sl.r_1, trip_k0_t1.sl.r_2, trip_k0_t1.sl.r_3, trip_k0_t1.sl.r_4,
    trip_k0_t1.sl.r_5, trip_k0_t1.sl.r_6, trip_k0_t1.sl.r_7, trip_k0_t1.sl.r_8, trip_k0_t1.sl.r_9, trip_k0_t1.sl.r_10,
    trip_k0_t1.sl.r_11, trip_k0_t1.sl.r_12, trip_k0_t1.sl.r_13, trip_k0_t1.sl.r_14, trip_k0_t1.sl.r_15,
    trip_k0_t1.sl.r_16, trip_k0_t1.sl.r_17, trip_k0_t1.sl.r_18, trip_k0_t1.sl.r_19, trip_k0_t1.sl.r_20,
    trip_k0_t1.sl.r_21, trip_k0_t1.sl.r_22, trip_k0_t1.sl.r_23, K0, K1, V0, V1]
  rfl

/-- The loop's two trips are eight steps of each head. -/
theorem loop_eq (c : Dev nD) (𝒱 : Variants) (bd : Option 𝒱.V) (i : grid0.Coords) (arg3 : Memref sig .tc .vmem S1x2x1024x128 .bf16) (harg3 : arg3.IsWhole) (arg4 : Memref sig .tc .vmem S1x2x128x256 .bf16) (harg4 : arg4.IsWhole) (arg5 : Memref sig .tc .vmem S1x2x256x128 .bf16) (harg5 : arg5.IsWhole) (arg6 : Memref sig .tc .vmem S1x2x128x16384 .bf16) (harg6 : arg6.IsWhole) (arg7 : Memref sig .tc .vmem S1x2x16384x128 .bf16) (harg7 : arg7.IsWhole) (arg8 : Memref sig .tc .vmem S1x1024x128 .bf16) (harg8 : arg8.IsWhole)
    (v1 v3 : FVec F S1024x128 .bf16) (v251 : FVec F S1024x1 .f32) (v261 : FVec F S1024x128 .f32) (v269 : FVec F S1024x1 .f32) (v279 : FVec F S1024x128 .f32) (v281 : FVec F S128x1024 .bf16) (v283 : FVec F S1024x128 .bf16) (cst_182 : FVec F S1024x1024 .f32)
    (x3 : Vec F S1x2x128x16384 .bf16) (x4 : Vec F S1x2x16384x128 .bf16) (s t : St F)
    {init : FVec F S1024x1 .f32 × FVec F S1024x128 .f32 × FVec F S1024x1 .f32 × FVec F S1024x128 .f32} (hi : init = (s.1, s.2, t.1, t.2)) :
    st_k0_t1 (F := F) 𝒱 c bd i arg3 harg3 arg4 harg4 arg5 harg5 arg6 harg6 arg7 harg7 arg8 harg8 v1 v3 v251 v261 v269 v279 v281 v283 cst_182 (harg6.unread x3) (harg7.unread x4) init
        (Scf.trips k0_t1_loop.lb k0_t1_loop.ub k0_t1_loop.st)
      = ((run x3 x4 0 v1 8192 s 8).1, (run x3 x4 0 v1 8192 s 8).2, (run x3 x4 1 v3 8192 t 8).1, (run x3 x4 1 v3 8192 t 8).2) := by
  subst hi
  have h2 : Scf.trips k0_t1_loop.lb k0_t1_loop.ub k0_t1_loop.st = 2 := by decide
  have e1 := st_k0_t1_succ (F := F) 𝒱 c bd i arg3 harg3 arg4 harg4 arg5 harg5 arg6 harg6 arg7 harg7 arg8 harg8 v1 v3 v251 v261 v269 v279 v281 v283 cst_182 (harg6.unread x3) (harg7.unread x4) (s.1, s.2, t.1, t.2) ⟨0, by decide⟩
  have e2 := st_k0_t1_succ (F := F) 𝒱 c bd i arg3 harg3 arg4 harg4 arg5 harg5 arg6 harg6 arg7 harg7 arg8 harg8 v1 v3 v251 v261 v269 v279 v281 v283 cst_182 (harg6.unread x3) (harg7.unread x4) (s.1, s.2, t.1, t.2) ⟨1, by decide⟩
  rw [h2]
  refine e2.trans ((congrArg _ (e1.trans (trip_eq (s := s) (t := t) ..))).trans ?_)
  exact trip_eq (s := run x3 x4 0 v1 8192 s 4) (t := run x3 x4 1 v3 8192 t 4) ..

/-- The block the kernel writes at a grid point, from the blocks it reads. -/
theorem out_eq (c : Dev nD) (i : grid0.Coords) (arg3 : Memref sig .tc .vmem S1x2x1024x128 .bf16) (harg3 : arg3.IsWhole) (arg4 : Memref sig .tc .vmem S1x2x128x256 .bf16) (harg4 : arg4.IsWhole) (arg5 : Memref sig .tc .vmem S1x2x256x128 .bf16) (harg5 : arg5.IsWhole) (arg6 : Memref sig .tc .vmem S1x2x128x16384 .bf16) (harg6 : arg6.IsWhole) (arg7 : Memref sig .tc .vmem S1x2x16384x128 .bf16) (harg7 : arg7.IsWhole) (arg8 : Memref sig .tc .vmem S1x1024x128 .bf16) (harg8 : arg8.IsWhole)
    (x0 : Vec F S1x2x1024x128 .bf16) (x1 : Vec F S1x2x128x256 .bf16) (x2 : Vec F S1x2x256x128 .bf16) (x3 : Vec F S1x2x128x16384 .bf16) (x4 : Vec F S1x2x16384x128 .bf16) :
    out0_A_5 c i arg3 harg3 arg4 harg4 arg5 harg5 arg6 harg6 arg7 harg7 arg8 harg8 x0 x1 x2 x3 x4
      = k0_pay1 (head x0 x1 x2 x3 x4 0).2 (head x0 x1 x2 x3 x4 1).2 (iota .tc S1024x128 32 [1] iota_S1024x128_d1_w32)
          (k0_pay96 (head x0 x1 x2 x3 x4 0).2) := by
  have K : ∀ (h : Fin 2) (o : ℕ) inb, View.readAt (Elt F) arg6.view
        (Rect.unit (s := S1x2x128x16384) ![0, h.val, 0, o] S1x1x128x1024.size inb).toLoadRect (harg6.unread x3)
      = keys x3 h o := fun h o inb => read_keys harg6 x3 h o rfl inb
  have V : ∀ (h : Fin 2) (o : ℕ) inb, View.readAt (Elt F) arg7.view
        (Rect.unit (s := S1x2x16384x128) ![0, h.val, o, 0] S1x1x1024x128.size inb).toLoadRect (harg7.unread x4)
      = vals x4 h o := fun h o inb => read_vals harg7 x4 h o rfl inb
  have K0 := K 0; have K1 := K 1; have V0 := V 0; have V1 := V 1
  have Q : ∀ (h : Fin 2) inb, View.readAt (Elt F) arg3.view
        (Rect.unit (s := S1x2x1024x128) ![0, h.val, 0, 0] S1x1x1024x128.size inb).toLoadRect (harg3.unread x0)
      = queries x0 h := fun h inb => read_slab harg3 x0 h.val inb
  have CK : ∀ (h : Fin 2) inb, View.readAt (Elt F) arg4.view
        (Rect.unit (s := S1x2x128x256) ![0, h.val, 0, 0] S1x1x128x256.size inb).toLoadRect (harg4.unread x1)
      = ctxKeys x1 h := fun h inb => read_slab harg4 x1 h.val inb
  have CV : ∀ (h : Fin 2) inb, View.readAt (Elt F) arg5.view
        (Rect.unit (s := S1x2x256x128) ![0, h.val, 0, 0] S1x1x256x128.size inb).toLoadRect (harg5.unread x2)
      = ctxVals x2 h := fun h inb => read_slab harg5 x2 h.val inb
  have Q0 := Q 0; have Q1 := Q 1; have CK0 := CK 0; have CK1 := CK 1; have CV0 := CV 0; have CV1 := CV 1
  clear K V Q CK CV
  simp only [Fin.val_zero, Fin.val_one] at K0 K1 V0 V1 Q0 Q1 CK0 CK1 CV0 CV1
  unfold out0_A_5
  rw [View.read_writes_eq_canon _ _ _ (cover0_A_5 c i arg3 harg3 arg4 harg4 arg5 harg5 arg6 harg6 arg7 harg7 arg8 harg8 x0 x1 x2 x3 x4)]
  unfold kernelRun0_A
  dsimp only
  sl_unfold_words
  rw [View.canon_unit_zero (by funext a; fin_cases a <;> rfl)]
  simp only [K0, K1, V0, V1, Q0, Q1, CK0, CK1, CV0, CV1]
  have h34 : (k0_pay34 (queries x0 1) : FVec F S1024x128 .bf16) = k0_pay33 (queries x0 1) := rfl
  rw [h34, loop_eq (s := run x3 x4 0 (k0_pay33 (queries x0 0)) 0 (start (queries x0 0) (ctxKeys x1 0) (ctxVals x2 0)) 8)
    (t := run x3 x4 1 (k0_pay33 (queries x0 1)) 0 (start (queries x0 1) (ctxKeys x1 1) (ctxVals x2 1)) 8) (hi := ?_)]
  · unfold head
    rfl
  · simp only [run, adv, start]
    rfl

end Cert.Attn

end
-- ==== Proof.Payloads.lean ====
/-
  The kernel's payloads, read at an index over the extended reals.
-/
module

public import proofs.«01_k».proof.Proof.Online
public import proofs.«01_k».proof.Proof.Steps

@[expose] public section

set_option maxRecDepth 16384

noncomputable section

namespace Cert.Attn

open Idealize.ShloMosaic Idealize.ShloMosaic.TcCoe Idealize.SL.Sem Cert.KernelIdeal Cert.KernelIdeal.Gen

theorem neg_inf : (Ideal.ofBits .f32 0xFF800000#32 : EReal) = ⊥ := by simp [Ideal.ofBits, Ideal.ieee]

theorem pay3_apply (q : FVec Ideal S1024x128 .bf16) (m : FVec Ideal S1024x1 .f32) (k : Vec Ideal S1x1x128x1024 .bf16)
    (r : Fin 1024) : k0_pay3 q m k (ix2 r 0)
      = max (m (ix2 r 0)) (Finset.univ.fold max (⊥ : EReal) fun j => ∑ e, q (ix2 r e) * k (ix4 0 0 e j)) := by
  rw [← neg_inf]
  pointwise [k0_pay3, k0_pay2]

theorem pay4_apply (q : FVec Ideal S1024x128 .bf16) (m : FVec Ideal S1024x1 .f32) (a : FVec Ideal S1024x128 .f32)
    (k : Vec Ideal S1x1x128x1024 .bf16) (v : Vec Ideal S1x1x1024x128 .bf16) (r : Fin 1024) (d : Fin 128) :
    k0_pay4 q m a k v (ix2 r d)
      = Ideal.exp2 (m (ix2 r 0) - k0_pay3 q m k (ix2 r 0)) * a (ix2 r d)
        + ∑ j, Ideal.exp2 ((∑ e, q (ix2 r e) * k (ix4 0 0 e j)) - k0_pay3 q m k (ix2 r 0)) * v (ix4 0 0 j d) := by
  pointwise [k0_pay4, k0_pay2]
  rfl

theorem pay36_apply (q : Vec Ideal S1x1x1024x128 .bf16) (k : Vec Ideal S1x1x128x256 .bf16) (r : Fin 1024) :
    k0_pay36 q k (ix2 r 0)
      = Finset.univ.fold max (⊥ : EReal) fun j => ∑ e, k0_pay33 q (ix2 r e) * k (ix4 0 0 e j) := by
  rw [← neg_inf]
  pointwise [k0_pay36, k0_pay35]

theorem pay37_apply (q : Vec Ideal S1x1x1024x128 .bf16) (k : Vec Ideal S1x1x128x256 .bf16)
    (v : Vec Ideal S1x1x256x128 .bf16) (r : Fin 1024) (d : Fin 128) :
    k0_pay37 q k v (ix2 r d)
      = ∑ j, Ideal.exp2 ((∑ e, k0_pay33 q (ix2 r e) * k (ix4 0 0 e j)) - k0_pay36 q k (ix2 r 0)) * v (ix4 0 0 j d) := by
  pointwise [k0_pay37, k0_pay35]
  rfl

theorem pay33_apply (q : Vec Ideal S1x1x1024x128 .bf16) (r : Fin 1024) (e : Fin 128) :
    k0_pay33 q (ix2 r e) = q (ix4 0 0 r e) := by
  pointwise [k0_pay33]

theorem lane_eq (c : Fin 128) : ∀ d : Fin 128,
    IntOp.cmpi .eq (BitVec.ofNat 32 d.val) (BitVec.ofNat 32 c.val) = if d = c then 1#1 else 0#1 := by
  revert c; decide +kernel

theorem lane_lt : ∀ d : Fin 128, IntOp.cmpi .slt (BitVec.ofNat 32 d.val) 64#32 = if d.val < 64 then 1#1 else 0#1 := by
  decide +kernel

/-- What is written at a row and lane. -/
theorem pay1_apply (a b : FVec Ideal S1024x128 .f32) (r : Fin 1024) (d : Fin 128) :
    k0_pay1 a b (iota .tc S1024x128 32 [1] iota_S1024x128_d1_w32) (k0_pay96 a) (ix3 0 r d)
      = if d.val < 64 then a (ix2 r d) * Ideal.div 1 (a (ix2 r 64)) else b (ix2 r d) * Ideal.div 1 (b (ix2 r 0)) := by
  pointwise [k0_pay1, k0_pay96]
  have h0 : ∀ (f : Fin 128 → EReal) (c : Fin 128),
      (∑ x : Fin 128, Scalar.select (IntOp.cmpi .eq (BitVec.ofNat 32 x.val) (BitVec.ofNat 32 c.val)) (f x) 0) = f c := by
    intro f c
    rw [Finset.sum_eq_single c]
    · rw [lane_eq, if_pos rfl]; rfl
    · intro x _ hx
      rw [lane_eq, if_neg hx]; rfl
    · exact fun h => absurd (Finset.mem_univ c) h
  have e64 := h0 (fun x => a (ix2 r x)) 64
  have e0 := h0 (fun x => b (ix2 r x)) 0
  refine (congrArg₂ (fun u w => Scalar.select (IntOp.cmpi .slt (BitVec.ofNat 32 d.val) 64#32)
    (a (ix2 r d) * Ideal.div 1 u) (b (ix2 r d) * Ideal.div 1 w)) e64 e0).trans ?_
  rw [lane_lt]
  by_cases h : d.val < 64
  · rw [if_pos h, if_pos h]; rfl
  · rw [if_neg h, if_neg h]; rfl

end Cert.Attn

end
-- ==== Proof.Block.lean ====
/-
  The block a grid point writes, over the reals: each head's lanes hold the quotient of two sums over its keys.
-/
module

public import proofs.«01_k».proof.Proof.Online
public import proofs.«01_k».proof.Proof.Payloads

@[expose] public section

set_option maxRecDepth 16384

noncomputable section

namespace Cert.Attn

open Idealize.ShloMosaic Idealize.ShloMosaic.TcCoe Idealize.SL.Sem Cert.KernelIdeal Cert.KernelIdeal.Gen

/-- The state of row `r` as the recursion over the reals carries it. -/
def Row (s : St Ideal) (r : Fin 1024) (A : Fin 128 → ℝ) : Prop :=
  Online (s.1 (ix2 r 0)) (fun d => s.2 (ix2 r d)) A

/-- A score: the query row's product with a key. -/
def score {K : Type} (Q : Fin 128 → ℝ) (κ : K → Fin 128 → ℝ) (n : K) : ℝ := ∑ e, Q e * κ n e

theorem coe_score {K : Type} (Q : Fin 128 → ℝ) (κ : K → Fin 128 → ℝ) (n : K) :
    (∑ e, ((Q e : ℝ) : EReal) * (κ n e : EReal)) = ((score Q κ n : ℝ) : EReal) := by
  rw [score, ← coe_sum]
  exact Finset.sum_congr rfl fun e _ => (EReal.coe_mul _ _).symm

theorem start_row (q : Vec Ideal S1x1x1024x128 .bf16) (k : Vec Ideal S1x1x128x256 .bf16) (v : Vec Ideal S1x1x256x128 .bf16)
    (r : Fin 1024) {Q : Fin 128 → ℝ} {κ ν : Fin 256 → Fin 128 → ℝ} (hq : ∀ e, q (ix4 0 0 r e) = (Q e : EReal))
    (hk : ∀ j e, k (ix4 0 0 e j) = (κ j e : EReal)) (hv : ∀ j d, v (ix4 0 0 j d) = (ν j d : EReal)) :
    Row (start q k v) r (mass (score Q κ) ν) := by
  have hm := pay36_apply q k r
  have ha := fun d => pay37_apply q k v r d
  simp only [pay33_apply, hq, hk, hv, coe_score] at hm ha
  have := Online.start (score Q κ) ν (m := k0_pay36 q k (ix2 r 0)) (a := fun d => k0_pay37 q k v (ix2 r d)) hm ha
  unfold Row start
  dsimp only
  exact this

theorem adv_row (q : FVec Ideal S1024x128 .bf16) (s : St Ideal) (k : Vec Ideal S1x1x128x1024 .bf16)
    (v : Vec Ideal S1x1x1024x128 .bf16) (r : Fin 1024) {Q : Fin 128 → ℝ} {κ ν : Fin 1024 → Fin 128 → ℝ} {A : Fin 128 → ℝ}
    (h : Row s r A) (hq : ∀ e, q (ix2 r e) = (Q e : EReal)) (hk : ∀ j e, k (ix4 0 0 e j) = (κ j e : EReal))
    (hv : ∀ j d, v (ix4 0 0 j d) = (ν j d : EReal)) :
    Row (adv q s k v) r (fun d => A d + mass (score Q κ) ν d) := by
  have hm := pay3_apply q s.1 k r
  have ha := fun d => pay4_apply q s.1 s.2 k v r d
  simp only [hq, hk, hv, coe_score] at hm ha
  exact Online.step _ _ h hm ha

theorem run_row (x3 : Vec Ideal S1x2x128x16384 .bf16) (x4 : Vec Ideal S1x2x16384x128 .bf16) (h : Fin 2)
    (q : FVec Ideal S1024x128 .bf16) (o : ℕ) (s : St Ideal) (r : Fin 1024) {Q : Fin 128 → ℝ}
    {κ ν : Fin 16384 → Fin 128 → ℝ} {A : Fin 128 → ℝ} (hs : Row s r A) (hq : ∀ e, q (ix2 r e) = (Q e : EReal))
    (hk : ∀ n e, x3 (ix4 0 h e n) = (κ n e : EReal)) (hv : ∀ n d, x4 (ix4 0 h n d) = (ν n d : EReal)) (n : ℕ) :
    Row (run x3 x4 h q o s n) r (fun d => A d + ∑ c ∈ Finset.range n, ∑ j : Fin 1024,
      Real.rpow 2 (score Q κ (pos (o + 1024 * c) j)) * ν (pos (o + 1024 * c) j) d) := by
  induction n with
  | zero =>
    simp only [Finset.range_zero, Finset.sum_empty, add_zero]
    exact hs
  | succ n ih =>
    have := adv_row (κ := fun j => κ (pos (o + 1024 * n) j)) (ν := fun j => ν (pos (o + 1024 * n) j)) q _
      (keys x3 h (o + 1024 * n)) (vals x4 h (o + 1024 * n)) r ih hq (fun j e => hk _ e) (fun j d => hv _ d)
    simp only [Finset.sum_range_succ, ← add_assoc]
    exact this

/-- The sixteen chunks are all the positions. -/
theorem sum_chunks (f : Fin 16384 → ℝ) :
    (∑ c ∈ Finset.range 8, ∑ j : Fin 1024, f (pos (0 + 1024 * c) j))
      + (∑ c ∈ Finset.range 8, ∑ j : Fin 1024, f (pos (8192 + 1024 * c) j)) = ∑ n, f n := by
  have h : (∑ n, f n) = ∑ c ∈ Finset.range 16, ∑ j : Fin 1024, f (pos (1024 * c) j) := by
    rw [Finset.sum_range, ← Equiv.sum_comp (finProdFinEquiv (m := 16) (n := 1024)) f, Fintype.sum_prod_type]
    refine Finset.sum_congr rfl fun c _ => Finset.sum_congr rfl fun j _ => congrArg f (Fin.ext ?_)
    show j.val + 1024 * c.val = (1024 * c.val + j.val) % 16384
    have := c.isLt; have := j.isLt; omega
  rw [h, show (16 : ℕ) = 8 + 8 from rfl, Finset.sum_range_add]
  simp only [Nat.zero_add, Nat.mul_add]

/-- A head's sums over its context keys and all its keys. -/
def total (Q : Fin 128 → ℝ) (κc νc : Fin 256 → Fin 128 → ℝ) (κ ν : Fin 16384 → Fin 128 → ℝ) (d : Fin 128) : ℝ :=
  mass (score Q κc) νc d + mass (score Q κ) ν d

theorem head_row (x0 : Vec Ideal S1x2x1024x128 .bf16) (x1 : Vec Ideal S1x2x128x256 .bf16) (x2 : Vec Ideal S1x2x256x128 .bf16)
    (x3 : Vec Ideal S1x2x128x16384 .bf16) (x4 : Vec Ideal S1x2x16384x128 .bf16) (h : Fin 2) (r : Fin 1024)
    {Q : Fin 128 → ℝ} {κc νc : Fin 256 → Fin 128 → ℝ} {κ ν : Fin 16384 → Fin 128 → ℝ}
    (hq : ∀ e, x0 (ix4 0 h r e) = (Q e : EReal))
    (hck : ∀ n e, x1 (ix4 0 h e n) = (κc n e : EReal)) (hcv : ∀ n d, x2 (ix4 0 h n d) = (νc n d : EReal))
    (hk : ∀ n e, x3 (ix4 0 h e n) = (κ n e : EReal)) (hv : ∀ n d, x4 (ix4 0 h n d) = (ν n d : EReal)) :
    Row (head x0 x1 x2 x3 x4 h) r (total Q κc νc κ ν) := by
  have hq' : ∀ e, k0_pay33 (queries x0 h) (ix2 r e) = (Q e : EReal) := fun e => (pay33_apply _ r e).trans (hq e)
  have h0 := start_row (queries x0 h) (ctxKeys x1 h) (ctxVals x2 h) r hq hck hcv
  have h1 := run_row x3 x4 h (k0_pay33 (queries x0 h)) 0 _ r h0 hq' hk hv 8
  have h2 := run_row x3 x4 h (k0_pay33 (queries x0 h)) 8192 _ r h1 hq' hk hv 8
  have e : (total Q κc νc κ ν) = fun d => mass (score Q κc) νc d
      + (∑ c ∈ Finset.range 8, ∑ j : Fin 1024, Real.rpow 2 (score Q κ (pos (0 + 1024 * c) j)) * ν (pos (0 + 1024 * c) j) d)
      + ∑ c ∈ Finset.range 8, ∑ j : Fin 1024, Real.rpow 2 (score Q κ (pos (8192 + 1024 * c) j)) * ν (pos (8192 + 1024 * c) j) d := by
    funext d
    rw [add_assoc, sum_chunks (fun n => Real.rpow 2 (score Q κ n) * ν n d)]
    rfl
  rw [e]
  exact h2

/-- The block written: at a row and lane, the lane's head's quotient.  Head 0 has lanes 0–63 and its sum of weights in
    lane 64, head 1 has lanes 64–127 and its sum of weights in lane 0. -/
theorem block_apply (x0 : Vec Ideal S1x2x1024x128 .bf16) (x1 : Vec Ideal S1x2x128x256 .bf16) (x2 : Vec Ideal S1x2x256x128 .bf16)
    (x3 : Vec Ideal S1x2x128x16384 .bf16) (x4 : Vec Ideal S1x2x16384x128 .bf16) (h : Fin 2) (r : Fin 1024) (d : Fin 128)
    (hd : h.val = d.val / 64)
    {Q : Fin 128 → ℝ} {κc νc : Fin 256 → Fin 128 → ℝ} {κ ν : Fin 16384 → Fin 128 → ℝ}
    (hq : ∀ e, x0 (ix4 0 h r e) = (Q e : EReal))
    (hck : ∀ n e, x1 (ix4 0 h e n) = (κc n e : EReal)) (hcv : ∀ n d, x2 (ix4 0 h n d) = (νc n d : EReal))
    (hk : ∀ n e, x3 (ix4 0 h e n) = (κ n e : EReal)) (hv : ∀ n d, x4 (ix4 0 h n d) = (ν n d : EReal))
    (one : Fin 128) (ho : one = if d.val < 64 then 64 else 0) (hpos : total Q κc νc κ ν one ≠ 0) :
    k0_pay1 (head x0 x1 x2 x3 x4 0).2 (head x0 x1 x2 x3 x4 1).2 (iota .tc S1024x128 32 [1] iota_S1024x128_d1_w32)
        (k0_pay96 (head x0 x1 x2 x3 x4 0).2) (ix3 0 r d)
      = ((total Q κc νc κ ν d / total Q κc νc κ ν one : ℝ) : EReal) := by
  have hr := head_row x0 x1 x2 x3 x4 h r hq hck hcv hk hv
  rw [pay1_apply, ← Online.quot hr d one hpos]
  have hdl := d.isLt
  by_cases h64 : d.val < 64
  · obtain rfl : h = 0 := Fin.ext (by show h.val = 0; omega)
    rw [if_pos h64, ho, if_pos h64]
  · obtain rfl : h = 1 := Fin.ext (by show h.val = 1; omega)
    rw [if_neg h64, ho, if_neg h64]

end Cert.Attn

end
-- ==== Proof.Model.lean ====
/-
  The attention over the real numbers: its inputs, the rotation, the scores, and the arrays that the kernel works on.
-/
module

public import proofs.«01_k».proof.Proof.Block

@[expose] public section

set_option maxRecDepth 16384

noncomputable section

namespace Cert.Attn

open Idealize.ShloMosaic

/-- The ten inputs as real numbers: the queries' two parts, the tables, the context's keys and values, the sequence's. -/
structure Inputs where
  qn : Fin 2 → Fin 16384 → Fin 16 → Fin 64 → ℝ
  qr : Fin 2 → Fin 16384 → Fin 16 → Fin 32 → ℝ
  cos : Fin 16384 → Fin 2 → Fin 8 → ℝ
  sin : Fin 16384 → Fin 2 → Fin 8 → ℝ
  knc : Fin 2 → Fin 256 → Fin 16 → Fin 64 → ℝ
  krc : Fin 2 → Fin 256 → Fin 32 → ℝ
  vc : Fin 2 → Fin 256 → Fin 16 → Fin 64 → ℝ
  kn : Fin 2 → Fin 16384 → Fin 16 → Fin 64 → ℝ
  kr : Fin 2 → Fin 16384 → Fin 32 → ℝ
  v : Fin 2 → Fin 16384 → Fin 16 → Fin 64 → ℝ

/-- The partner of a rotary lane: eight lanes up or down, within its axis. -/
def swap (e : Fin 32) : Fin 32 := ⟨e.val / 16 * 16 + (1 - e.val / 8 % 2) * 8 + e.val % 8, by have := e.isLt; omega⟩

/-- A lane's entry of a table. -/
def entry (t : Fin 2 → Fin 8 → ℝ) (e : Fin 32) : ℝ := t ⟨e.val / 16, by have := e.isLt; omega⟩ ⟨e.val % 8, by omega⟩

/-- The sine with the sign that its lane's half takes. -/
def signed (t : Fin 2 → Fin 8 → ℝ) (e : Fin 32) : ℝ := if e.val / 8 % 2 < 1 then - entry t e else entry t e

/-- The rotation of a row by one position's tables. -/
def rot (C S : Fin 2 → Fin 8 → ℝ) (x : Fin 32 → ℝ) (e : Fin 32) : ℝ := x e * entry C e + x (swap e) * signed S e

/-- The factor of the scores: the softmax scale times the binary logarithm of e. -/
def c0 : ℝ := 1 / (Real.sqrt 96 * Real.log 2)

/-- A vector of three parts: 64 lanes, 32 lanes and 32 lanes. -/
def join {α : Type} (x : Fin 64 → α) (y z : Fin 32 → α) (e : Fin 128) : α :=
  if h : e.val < 64 then x ⟨e.val, h⟩
  else if h' : e.val - 64 < 32 then y ⟨e.val - 64, h'⟩
  else z ⟨e.val - 64 - 32, by have := e.isLt; omega⟩

/-- A head's values on its lanes, a one in the lane that sums the weights, zeros elsewhere. -/
def spread (h : Fin 16) (x : Fin 64 → ℝ) (e : Fin 128) : ℝ :=
  if e.val = (if h.val % 2 < 1 then 64 else 0) then 1
  else if e.val / 64 = h.val % 2 then x ⟨e.val % 64, by omega⟩ else 0

namespace Inputs

variable (X : Inputs)

/-- The queries as the kernel takes them: scaled, the rotary part beside its partner lanes. -/
def Q (b : Fin 2) (h : Fin 16) (n : Fin 16384) : Fin 128 → ℝ :=
  join (fun d => X.qn b n h d * (c0 * 1)) (fun e => X.qr b n h e * (c0 * entry (X.cos n) e))
    (fun e => X.qr b n h (swap e) * (c0 * signed (X.sin n) e))

/-- The rotated keys of the sequence. -/
def krot (b : Fin 2) (n : Fin 16384) : Fin 32 → ℝ := rot (X.cos n) (X.sin n) (X.kr b n)

/-- The sequence's keys, 128 lanes. -/
def K (b : Fin 2) (h : Fin 16) (n : Fin 16384) : Fin 128 → ℝ := join (X.kn b n h) (X.krot b n) (X.krot b n)

/-- The context's keys, 128 lanes. -/
def Kc (b : Fin 2) (h : Fin 16) (n : Fin 256) : Fin 128 → ℝ := join (X.knc b n h) (X.krc b n) (X.krc b n)

/-- The sequence's values, 128 lanes. -/
def U (b : Fin 2) (h : Fin 16) (n : Fin 16384) : Fin 128 → ℝ := spread h (X.v b n h)

/-- The context's values, 128 lanes. -/
def Uc (b : Fin 2) (h : Fin 16) (n : Fin 256) : Fin 128 → ℝ := spread h (X.vc b n h)

/-- The rotated queries. -/
def qrot (b : Fin 2) (n : Fin 16384) (h : Fin 16) : Fin 32 → ℝ := rot (X.cos n) (X.sin n) (X.qr b n h)

/-- All keys and values, the context's before the sequence's. -/
def keyN (b : Fin 2) (h : Fin 16) (k : Fin 16640) (d : Fin 64) : ℝ :=
  if hk : k.val < 256 then X.knc b ⟨k.val, hk⟩ h d else X.kn b ⟨k.val - 256, by have := k.isLt; omega⟩ h d

def keyR (b : Fin 2) (k : Fin 16640) (e : Fin 32) : ℝ :=
  if hk : k.val < 256 then X.krc b ⟨k.val, hk⟩ e else X.krot b ⟨k.val - 256, by have := k.isLt; omega⟩ e

def val (b : Fin 2) (h : Fin 16) (k : Fin 16640) (d : Fin 64) : ℝ :=
  if hk : k.val < 256 then X.vc b ⟨k.val, hk⟩ h d else X.v b ⟨k.val - 256, by have := k.isLt; omega⟩ h d

/-- The unscaled score of a query and a key. -/
def dot (b : Fin 2) (h : Fin 16) (q : Fin 16384) (k : Fin 16640) : ℝ :=
  (∑ d, X.qn b q h d * X.keyN b h k d) + ∑ e, X.keyR b k e * X.qrot b q h e

/-- The attention of one query and one head. -/
def out (b : Fin 2) (q : Fin 16384) (h : Fin 16) (d : Fin 64) : ℝ :=
  (∑ k, Real.exp (X.dot b h q k / Real.sqrt 96) * X.val b h k d) / ∑ k, Real.exp (X.dot b h q k / Real.sqrt 96)

end Inputs

/-- A sum over 128 lanes, part by part. -/
theorem sum_join (f : Fin 128 → ℝ) :
    ∑ e, f e = (∑ d : Fin 64, f ⟨d.val, by have := d.isLt; omega⟩)
      + ((∑ e : Fin 32, f ⟨64 + e.val, by have := e.isLt; omega⟩) + ∑ e : Fin 32, f ⟨96 + e.val, by have := e.isLt; omega⟩) := by
  rw [Fin.sum_univ_add (a := 64) (b := 64) f, Fin.sum_univ_add (a := 32) (b := 32) fun i => f (Fin.natAdd 64 i)]
  refine congrArg₂ _ rfl (congrArg₂ _ rfl (Finset.sum_congr rfl fun e _ => congrArg f (Fin.ext ?_)))
  show 64 + (32 + e.val) = 96 + e.val
  omega

theorem score_join (c : ℝ) (x : Fin 64 → ℝ) (y : Fin 32 → ℝ) (C S : Fin 2 → Fin 8 → ℝ) (k : Fin 64 → ℝ) (r : Fin 32 → ℝ) :
    (∑ e, join (fun d => x d * (c * 1)) (fun e => y e * (c * entry C e)) (fun e => y (swap e) * (c * signed S e)) e * join k r r e)
      = c * ((∑ d, x d * k d) + ∑ e, r e * rot C S y e) := by
  rw [sum_join, mul_add, Finset.mul_sum, Finset.mul_sum, ← Finset.sum_add_distrib]
  refine congrArg₂ _ (Finset.sum_congr rfl fun d _ => ?_) (Finset.sum_congr rfl fun e _ => ?_)
  · simp only [join, dif_pos d.isLt]
    ring
  · have h1 : ¬ 64 + e.val < 64 := by omega
    have h2 : 64 + e.val - 64 < 32 := by have := e.isLt; omega
    have h3 : ¬ 96 + e.val < 64 := by omega
    have h4 : ¬ 96 + e.val - 64 < 32 := by omega
    have e1 : (⟨64 + e.val - 64, h2⟩ : Fin 32) = e := Fin.ext (by simp)
    have e2 : ∀ p, (⟨96 + e.val - 64 - 32, p⟩ : Fin 32) = e := fun p => Fin.ext (by show 96 + e.val - 64 - 32 = e.val; omega)
    simp only [join, dif_neg h1, dif_pos h2, dif_neg h3, dif_neg h4, e1, e2, rot]
    ring

/-- A sum over all positions: the context's and the sequence's. -/
theorem sum_keys (f : Fin 16640 → ℝ) :
    ∑ k, f k = (∑ k : Fin 256, f ⟨k.val, by have := k.isLt; omega⟩) + ∑ k : Fin 16384, f ⟨256 + k.val, by have := k.isLt; omega⟩ :=
  Fin.sum_univ_add (a := 256) (b := 16384) f

theorem rpow_exp (t : ℝ) : Real.rpow 2 (c0 * t) = Real.exp (t / Real.sqrt 96) := by
  show (2 : ℝ) ^ (c0 * t) = _
  have h2 : Real.log 2 ≠ 0 := (Real.log_pos (by norm_num)).ne'
  have h96 : Real.sqrt 96 ≠ 0 := (Real.sqrt_pos.mpr (by norm_num)).ne'
  rw [Real.rpow_def_of_pos (by norm_num)]
  congr 1
  unfold c0
  field_simp

namespace Inputs

variable (X : Inputs)

theorem score_ctx (b : Fin 2) (h : Fin 16) (q : Fin 16384) (k : Fin 256) (p) :
    score (X.Q b h q) (X.Kc b h) k = c0 * X.dot b h q ⟨k.val, p⟩ := by
  have hk : k.val < 256 := k.isLt
  unfold score Q Kc dot
  rw [score_join]
  simp only [keyN, keyR, dif_pos hk]
  rfl

theorem score_seq (b : Fin 2) (h : Fin 16) (q : Fin 16384) (k : Fin 16384) (p) :
    score (X.Q b h q) (X.K b h) k = c0 * X.dot b h q ⟨256 + k.val, p⟩ := by
  have hk : ¬ 256 + k.val < 256 := by omega
  have e : ∀ p, (⟨256 + k.val - 256, p⟩ : Fin 16384) = k := fun p => Fin.ext (by show 256 + k.val - 256 = k.val; omega)
  unfold score Q K dot
  rw [score_join]
  simp only [keyN, keyR, dif_neg hk, e]
  rfl

/-- A head's sums are the attention's, the weights `exp`. -/
theorem total_eq (b : Fin 2) (h : Fin 16) (q : Fin 16384) (e : Fin 128) (g : Fin 16640 → ℝ)
    (hc : ∀ (k : Fin 256) p, X.Uc b h k e = g ⟨k.val, p⟩) (hs : ∀ (k : Fin 16384) p, X.U b h k e = g ⟨256 + k.val, p⟩) :
    total (X.Q b h q) (X.Kc b h) (X.Uc b h) (X.K b h) (X.U b h) e = ∑ k, Real.exp (X.dot b h q k / Real.sqrt 96) * g k := by
  rw [sum_keys]
  unfold total mass
  refine congrArg₂ _ (Finset.sum_congr rfl fun k _ => ?_) (Finset.sum_congr rfl fun k _ => ?_)
  · rw [score_ctx X b h q k (by have := k.isLt; omega), rpow_exp, hc]
  · rw [score_seq X b h q k (by have := k.isLt; omega), rpow_exp, hs]

theorem total_one (b : Fin 2) (h : Fin 16) (q : Fin 16384) (one : Fin 128) (ho : one.val = if h.val % 2 < 1 then 64 else 0) :
    total (X.Q b h q) (X.Kc b h) (X.Uc b h) (X.K b h) (X.U b h) one = ∑ k, Real.exp (X.dot b h q k / Real.sqrt 96) := by
  rw [total_eq X b h q one (fun _ => 1)]
  · simp only [mul_one]
  · intro k p; simp only [Uc, spread, if_pos ho]
  · intro k p; simp only [U, spread, if_pos ho]

theorem total_val (b : Fin 2) (h : Fin 16) (q : Fin 16384) (e : Fin 128) (he : e.val / 64 = h.val % 2) :
    total (X.Q b h q) (X.Kc b h) (X.Uc b h) (X.K b h) (X.U b h) e
      = ∑ k, Real.exp (X.dot b h q k / Real.sqrt 96) * X.val b h k ⟨e.val % 64, by omega⟩ := by
  have hn : ¬ e.val = if h.val % 2 < 1 then 64 else 0 := by have := e.isLt; split <;> omega
  refine total_eq X b h q e (fun k => X.val b h k ⟨e.val % 64, by omega⟩) (fun k p => ?_) fun k p => ?_
  · have hk : k.val < 256 := k.isLt
    simp only [Uc, spread, if_neg hn, if_pos he, val, dif_pos hk]
  · have hk : ¬ 256 + k.val < 256 := by omega
    have e : ∀ p, (⟨256 + k.val - 256, p⟩ : Fin 16384) = k := fun p => Fin.ext (by show 256 + k.val - 256 = k.val; omega)
    simp only [U, spread, if_neg hn, if_pos he, val, dif_neg hk, e]

theorem weights_pos (b : Fin 2) (h : Fin 16) (q : Fin 16384) : 0 < ∑ k, Real.exp (X.dot b h q k / Real.sqrt 96) :=
  Finset.sum_pos (fun _ _ => Real.exp_pos _) ⟨(0 : Fin 16640), Finset.mem_univ _⟩

end Inputs

end Cert.Attn

end
-- ==== Proof.Host.lean ====
/-
  The arrays that the kernel's host code prepares, read at an index.
-/
module

public import proofs.«01_k».proof.Proof.Model
public import Idealize.ShloMosaic.Lib.StableHlo.ReadAt

@[expose] public section

set_option maxRecDepth 16384

noncomputable section

namespace Cert.Attn

open Idealize.ShloMosaic Idealize.ShloMosaic.TcCoe Idealize.SL.Sem Cert.KernelIdeal Cert.KernelIdeal.Gen

variable (m : (ℓ : Loc nD τ sig) → Buf (Elt Ideal) ℓ) (c : Dev nD)

/-- The kernel's arguments on a device are the real inputs. -/
structure Args (X : Inputs) : Prop where
  qn : ∀ b n h d, (m (c, Proc.tc.devRef main_arg0) : FVec Ideal S2x16384x16x64 .f32) (ix4 b n h d) = (X.qn b n h d : EReal)
  qr : ∀ b n h d, (m (c, Proc.tc.devRef main_arg1) : FVec Ideal S2x16384x16x32 .f32) (ix4 b n h d) = (X.qr b n h d : EReal)
  cos : ∀ n a f, (m (c, Proc.tc.devRef main_arg2) : FVec Ideal S16384x2x8 .f32) (ix3 n a f) = (X.cos n a f : EReal)
  sin : ∀ n a f, (m (c, Proc.tc.devRef main_arg3) : FVec Ideal S16384x2x8 .f32) (ix3 n a f) = (X.sin n a f : EReal)
  knc : ∀ b n h d, (m (c, Proc.tc.devRef main_arg4) : FVec Ideal S2x256x16x64 .f32) (ix4 b n h d) = (X.knc b n h d : EReal)
  krc : ∀ b n d, (m (c, Proc.tc.devRef main_arg5) : FVec Ideal S2x256x32 .f32) (ix3 b n d) = (X.krc b n d : EReal)
  vc : ∀ b n h d, (m (c, Proc.tc.devRef main_arg6) : FVec Ideal S2x256x16x64 .f32) (ix4 b n h d) = (X.vc b n h d : EReal)
  kn : ∀ b n h d, (m (c, Proc.tc.devRef main_arg7) : FVec Ideal S2x16384x16x64 .f32) (ix4 b n h d) = (X.kn b n h d : EReal)
  kr : ∀ b n d, (m (c, Proc.tc.devRef main_arg8) : FVec Ideal S2x16384x32 .f32) (ix3 b n d) = (X.kr b n d : EReal)
  v : ∀ b n h d, (m (c, Proc.tc.devRef main_arg9) : FVec Ideal S2x16384x16x64 .f32) (ix4 b n h d) = (X.v b n h d : EReal)

theorem ofBits_96 : Ideal.ofBits .f32 1119879168#32 = ((96 : ℝ) : EReal) := by
  simp [Ideal.ofBits, Ideal.ieee, -EReal.coe_mul]; norm_num

theorem ofBits_2 : Ideal.ofBits .f32 1073741824#32 = ((2 : ℝ) : EReal) := by
  simp [Ideal.ofBits, Ideal.ieee, -EReal.coe_mul]; norm_num

theorem c0_eq : Ideal.div 1 (Ideal.sqrt (Ideal.ofBits .f32 1119879168#32) * Ideal.log (Ideal.ofBits .f32 1073741824#32))
    = ((c0 : ℝ) : EReal) := by
  have h2 : Real.log 2 ≠ 0 := (Real.log_pos (by norm_num)).ne'
  have h96 : Real.sqrt 96 ≠ 0 := (Real.sqrt_pos.mpr (by norm_num)).ne'
  rw [ofBits_96, ofBits_2, Ideal.sqrt_coe, Ideal.log_coe, if_neg (by norm_num : ¬ (96 : ℝ) < 0), if_neg (by norm_num : ¬ (2 : ℝ) ≤ 0), ← EReal.coe_mul,
    Ideal.div_coe (mul_ne_zero h96 h2), one_mul]
  rfl

/-- A lane of the lower half has its partner eight lanes up, one of the upper half eight lanes down. -/
theorem swap_lo (e : Fin 32) (h : e.val / 8 % 2 < 1) (p) :
    (⟨e.val / 16 * 16 + (1 + e.val / 8 % 2) * 8 + e.val % 8, p⟩ : Fin 32) = swap e := by
  apply Fin.ext; show e.val / 16 * 16 + (1 + e.val / 8 % 2) * 8 + e.val % 8 = e.val / 16 * 16 + (1 - e.val / 8 % 2) * 8 + e.val % 8; omega

theorem swap_hi (e : Fin 32) (h : ¬ e.val / 8 % 2 < 1) (p) :
    (⟨e.val / 16 * 16 + (e.val / 8 % 2 - 1) * 8 + e.val % 8, p⟩ : Fin 32) = swap e := by
  apply Fin.ext; show e.val / 16 * 16 + (e.val / 8 % 2 - 1) * 8 + e.val % 8 = e.val / 16 * 16 + (1 - e.val / 8 % 2) * 8 + e.val % 8; omega

/-- The kernel's scaled queries, lane by lane. -/
theorem ladder_q (e : Fin 128) (a : Fin 64 → EReal) (r : Fin 32 → EReal) (C S : Fin 2 → Fin 8 → EReal)
    {a' : Fin 64 → ℝ} {r' : Fin 32 → ℝ} {C' S' : Fin 2 → Fin 8 → ℝ} (ha : ∀ d, a d = (a' d : EReal))
    (hr : ∀ d, r d = (r' d : EReal)) (hC : ∀ x f, C x f = (C' x f : EReal)) (hS : ∀ x f, S x f = (S' x f : EReal)) :
    (if h1 : e.val < 64 then a ⟨e.val, h1⟩
      else if h2 : e.val - 64 < 32 then r ⟨e.val - 64, h2⟩
      else if h3 : (e.val - 64 - 32) / 8 % 2 < 1 then
        r ⟨(e.val - 64 - 32) / 16 * 16 + (1 + (e.val - 64 - 32) / 8 % 2) * 8 + (e.val - 64 - 32) % 8, by have := e.isLt; omega⟩
      else r ⟨(e.val - 64 - 32) / 16 * 16 + ((e.val - 64 - 32) / 8 % 2 - 1) * 8 + (e.val - 64 - 32) % 8, by have := e.isLt; omega⟩)
      * (Ideal.div 1 (Ideal.sqrt (Ideal.ofBits .f32 1119879168#32) * Ideal.log (Ideal.ofBits .f32 1073741824#32))
        * if h1 : e.val < 64 then 1
          else if h2 : e.val - 64 < 32 then
            if h3 : (e.val - 64) / 8 % 2 < 1 then C ⟨(e.val - 64) / 16, by omega⟩ ⟨(e.val - 64) % 8, by omega⟩
            else C ⟨(e.val - 64) / 16, by omega⟩ ⟨(e.val - 64) % 8, by omega⟩
          else if h3 : (e.val - 64 - 32) / 8 % 2 < 1 then
            - S ⟨(e.val - 64 - 32) / 16, by have := e.isLt; omega⟩ ⟨(e.val - 64 - 32) % 8, by omega⟩
          else S ⟨(e.val - 64 - 32) / 16, by have := e.isLt; omega⟩ ⟨(e.val - 64 - 32) % 8, by omega⟩)
      = ((join (fun d => a' d * (c0 * 1)) (fun e => r' e * (c0 * entry C' e)) (fun e => r' (swap e) * (c0 * signed S' e)) e : ℝ) : EReal) := by
  rw [c0_eq]
  simp only [ha, hr, hC, hS]
  unfold join
  by_cases h1 : e.val < 64
  · simp only [dif_pos h1]
    rw [EReal.coe_mul, EReal.coe_mul, EReal.coe_one]
  by_cases h2 : e.val - 64 < 32
  · simp only [dif_neg h1, dif_pos h2]
    rw [EReal.coe_mul, EReal.coe_mul, entry]
    by_cases h3 : (e.val - 64) / 8 % 2 < 1
    · rw [dif_pos h3]
    · rw [dif_neg h3]
  simp only [dif_neg h1, dif_neg h2]
  by_cases h3 : (e.val - 64 - 32) / 8 % 2 < 1
  · simp only [dif_pos h3]
    rw [swap_lo ⟨e.val - 64 - 32, by have := e.isLt; omega⟩ h3, signed, if_pos h3, EReal.coe_mul, EReal.coe_mul, EReal.coe_neg, entry]
  · simp only [dif_neg h3]
    rw [swap_hi ⟨e.val - 64 - 32, by have := e.isLt; omega⟩ h3, signed, if_neg h3, EReal.coe_mul, EReal.coe_mul, entry]

/-- The kernel's rotated keys, at a rotary lane. -/
theorem ladder_k (e : Fin 32) (r : Fin 32 → EReal) (C S : Fin 2 → Fin 8 → EReal)
    {r' : Fin 32 → ℝ} {C' S' : Fin 2 → Fin 8 → ℝ}
    (hr : ∀ d, r d = (r' d : EReal)) (hC : ∀ x f, C x f = (C' x f : EReal)) (hS : ∀ x f, S x f = (S' x f : EReal)) :
    (r e * (if h3 : e.val / 8 % 2 < 1 then C ⟨e.val / 16, by have := e.isLt; omega⟩ ⟨e.val % 8, by omega⟩
        else C ⟨e.val / 16, by have := e.isLt; omega⟩ ⟨e.val % 8, by omega⟩)
      + (if h3 : e.val / 8 % 2 < 1 then r ⟨e.val / 16 * 16 + (1 + e.val / 8 % 2) * 8 + e.val % 8, by have := e.isLt; omega⟩
          else r ⟨e.val / 16 * 16 + (e.val / 8 % 2 - 1) * 8 + e.val % 8, by have := e.isLt; omega⟩)
        * (if h3 : e.val / 8 % 2 < 1 then - S ⟨e.val / 16, by have := e.isLt; omega⟩ ⟨e.val % 8, by omega⟩
          else S ⟨e.val / 16, by have := e.isLt; omega⟩ ⟨e.val % 8, by omega⟩))
      = ((rot C' S' r' e : ℝ) : EReal) := by
  simp only [hr, hC, hS]
  by_cases h3 : e.val / 8 % 2 < 1
  · simp only [dif_pos h3]
    rw [swap_lo e h3, rot, signed, if_pos h3, EReal.coe_add, EReal.coe_mul, EReal.coe_mul, EReal.coe_neg, entry, entry]
  · simp only [dif_neg h3]
    rw [swap_hi e h3, rot, signed, if_neg h3, EReal.coe_add, EReal.coe_mul, EReal.coe_mul, entry, entry]

/-- A vector of three parts over the extended reals. -/
theorem ladder_join (e : Fin 128) {x : Fin 64 → ℝ} {y z : Fin 32 → ℝ} {x' : Fin 64 → EReal} {y' z' : Fin 32 → EReal}
    (hx : ∀ d, x' d = (x d : EReal)) (hy : ∀ d, y' d = (y d : EReal)) (hz : ∀ d, z' d = (z d : EReal)) :
    (if h1 : e.val < 64 then x' ⟨e.val, h1⟩
      else if h2 : e.val - 64 < 32 then y' ⟨e.val - 64, h2⟩ else z' ⟨e.val - 64 - 32, by have := e.isLt; omega⟩)
      = ((join x y z e : ℝ) : EReal) := by
  unfold join
  by_cases h1 : e.val < 64
  · simp only [dif_pos h1, hx]
  by_cases h2 : e.val - 64 < 32
  · simp only [dif_neg h1, dif_pos h2, hy]
  · simp only [dif_neg h1, dif_neg h2, hz]

theorem flag : ∀ h : Fin 16, IntOp.cmpi .eq (BitVec.ofNat 32 (h.val % 2)) 0#32 = if h.val % 2 < 1 then 1#1 else 0#1 := by
  decide +kernel

/-- A head's values on the 128 lanes, with the one that sums the weights. -/
theorem ladder_v (h : Fin 16) (e : Fin 128) (x : Fin 16 → Fin 64 → EReal) {x' : Fin 16 → Fin 64 → ℝ}
    (hx : ∀ h d, x h d = (x' h d : EReal)) :
    Scalar.select (IntOp.cmpi .eq (BitVec.ofNat 32 e.val)
        (Scalar.select (IntOp.cmpi .eq (BitVec.ofNat 32 (h.val % 2)) 0#32) 64#32 0#32)) (1 : EReal)
      (if h1 : h.val % 2 < 1 then
        if h2 : e.val < 64 then x ⟨h.val / 2 * 2, by have := h.isLt; omega⟩ ⟨e.val, h2⟩ else 0
      else if h2 : e.val < 64 then 0 else x ⟨h.val / 2 * 2 + 1, by have := h.isLt; omega⟩ ⟨e.val - 64, by have := e.isLt; omega⟩)
      = ((spread h (x' h) e : ℝ) : EReal) := by
  have he := e.isLt
  have s1 : ∀ {α : Type} (a b : α), Scalar.select 1#1 a b = a := fun _ _ => rfl
  have s0 : ∀ {α : Type} (a b : α), Scalar.select 0#1 a b = b := fun _ _ => rfl
  rw [flag]
  unfold spread
  by_cases h1 : h.val % 2 < 1
  · rw [if_pos h1, if_pos h1, s1, dif_pos h1]
    have hl := lane_eq 64 e
    rw [show BitVec.ofNat 32 (64 : Fin 128).val = 64#32 from rfl] at hl
    rw [hl]
    by_cases h64 : e = 64
    · rw [if_pos h64, s1, if_pos (show e.val = 64 from congrArg Fin.val h64), EReal.coe_one]
    rw [if_neg h64, s0, if_neg (show ¬ e.val = 64 from fun hc => h64 (Fin.ext hc))]
    by_cases h2 : e.val < 64
    · rw [dif_pos h2, if_pos (by omega), hx]
      have e1 : (⟨h.val / 2 * 2, by have := h.isLt; omega⟩ : Fin 16) = h := Fin.ext (by show h.val / 2 * 2 = h.val; omega)
      have e2 : (⟨e.val % 64, by omega⟩ : Fin 64) = ⟨e.val, h2⟩ := Fin.ext (by show e.val % 64 = e.val; omega)
      rw [e1, e2]
    · rw [dif_neg h2, if_neg (by omega), EReal.coe_zero]
  · rw [if_neg h1, if_neg h1, s0, dif_neg h1]
    have hl := lane_eq 0 e
    rw [show BitVec.ofNat 32 (0 : Fin 128).val = 0#32 from rfl] at hl
    rw [hl]
    by_cases h64 : e = 0
    · rw [if_pos h64, s1, if_pos (show e.val = 0 from congrArg Fin.val h64), EReal.coe_one]
    rw [if_neg h64, s0, if_neg (show ¬ e.val = 0 from fun hc => h64 (Fin.ext hc))]
    by_cases h2 : e.val < 64
    · rw [dif_pos h2, if_neg (by omega), EReal.coe_zero]
    · rw [dif_neg h2, if_pos (by omega), hx]
      have e1 : (⟨h.val / 2 * 2 + 1, by have := h.isLt; omega⟩ : Fin 16) = h := Fin.ext (by show h.val / 2 * 2 + 1 = h.val; omega)
      have e2 : (⟨e.val % 64, by omega⟩ : Fin 64) = ⟨e.val - 64, by omega⟩ := Fin.ext (by show e.val % 64 = e.val - 64; omega)
      rw [e1, e2]

end Cert.Attn

end
-- ==== Proof.HostA.lean ====
/-
  The arrays that the kernel's host code prepares, read at an index.
-/
module

public import proofs.«01_k».proof.Proof.Host
public import Idealize.ShloMosaic.Lib.StableHlo.ReadAt

@[expose] public section

set_option maxRecDepth 16384

noncomputable section

namespace Cert.Attn

open Idealize.ShloMosaic Idealize.ShloMosaic.TcCoe Idealize.SL.Sem Cert.KernelIdeal Cert.KernelIdeal.Gen

variable (m : (ℓ : Loc nD τ sig) → Buf (Elt Ideal) ℓ) (c : Dev nD)

theorem v44_apply {X : Inputs} (A : Args m c X) (b : Fin 2) (h : Fin 16) (e : Fin 128) (n : Fin 256) :
    (V m c main_v44 : FVec Ideal S2x16x128x256 .bf16) (ix4 b h e n) = (X.Kc b h n e : EReal) := by
  generalize hR : (X.Kc b h n e : EReal) = R
  unfold V
  after_reads_at
  after_reads_at
  subst hR
  exact ladder_join e (fun d => A.knc b n h d) (fun d => A.krc b n d) (fun d => A.krc b n d)

theorem v27_apply {X : Inputs} (A : Args m c X) (b : Fin 2) (h : Fin 16) (n : Fin 16384) (e : Fin 128) :
    (V m c main_v27 : FVec Ideal S2x16x16384x128 .bf16) (ix4 b h n e) = (X.Q b h n e : EReal) := by
  generalize hR : (X.Q b h n e : EReal) = R
  unfold V
  after_reads_at
  after_reads_at
  after_reads_at
  subst hR
  exact ladder_q e _ _ _ _ (A.qn b n h) (A.qr b n h) (A.cos n) (A.sin n)

theorem v73_apply {X : Inputs} (A : Args m c X) (b : Fin 2) (h : Fin 16) (e : Fin 128) (n : Fin 16384) :
    (V m c main_v73 : FVec Ideal S2x16x128x16384 .bf16) (ix4 b h e n) = (X.K b h n e : EReal) := by
  generalize hR : (X.K b h n e : EReal) = R
  unfold V
  after_reads_at
  repeat after_reads_at
  subst hR
  exact ladder_join e (fun d => A.kn b n h d)
    (fun d => ladder_k d _ _ _ (A.kr b n) (A.cos n) (A.sin n)) (fun d => ladder_k d _ _ _ (A.kr b n) (A.cos n) (A.sin n))

end Cert.Attn

end
-- ==== Proof.HostV.lean ====
/-
  The arrays that the kernel's host code prepares, read at an index.
-/
module

public import proofs.«01_k».proof.Proof.Host
public import Idealize.ShloMosaic.Lib.StableHlo.ReadAt

@[expose] public section

set_option maxRecDepth 16384

noncomputable section

namespace Cert.Attn

open Idealize.ShloMosaic Idealize.ShloMosaic.TcCoe Idealize.SL.Sem Cert.KernelIdeal Cert.KernelIdeal.Gen

variable (m : (ℓ : Loc nD τ sig) → Buf (Elt Ideal) ℓ) (c : Dev nD)

theorem v68_apply {X : Inputs} (A : Args m c X) (b : Fin 2) (h : Fin 16) (n : Fin 256) (e : Fin 128) :
    (V m c main_v68 : FVec Ideal S2x16x256x128 .bf16) (ix4 b h n e) = (X.Uc b h n e : EReal) := by
  generalize hR : (X.Uc b h n e : EReal) = R
  unfold V
  after_reads_at
  repeat after_reads_at
  simp only [id]
  pointwise
  subst hR
  exact ladder_v h e _ (A.vc b n)

theorem v97_apply {X : Inputs} (A : Args m c X) (b : Fin 2) (h : Fin 16) (n : Fin 16384) (e : Fin 128) :
    (V m c main_v97 : FVec Ideal S2x16x16384x128 .bf16) (ix4 b h n e) = (X.U b h n e : EReal) := by
  generalize hR : (X.U b h n e : EReal) = R
  unfold V
  after_reads_at
  repeat after_reads_at
  simp only [id]
  pointwise
  subst hR
  exact ladder_v h e _ (A.v b n)

end Cert.Attn

end
-- ==== Proof.Array.lean ====
/-
  The array that the kernel leaves, whole: each grid point writes its block of the attention, and the blocks cover it.
-/
module

public import proofs.«01_k».proof.Proof.HostA
public import proofs.«01_k».proof.Proof.HostV
public import proofs.«01_k».proof.Proof.Gen.KernelIdeal.Value

@[expose] public section

set_option maxRecDepth 16384

noncomputable section

namespace Cert.Attn

open Idealize.ShloMosaic Idealize.ShloMosaic.TcCoe Idealize.SL.Sem Cert.KernelIdeal Cert.KernelIdeal.Gen Cert.KernelIdeal.Value
open Idealize.ShloMosaic.Pipeline (Dat)

/-- The attention as an array. -/
def result (X : Inputs) : FVec Ideal S2x16384x1024 .bf16 := fun i =>
  (X.out (i 0) (i 1) ⟨(i 2).val / 64, by have : (i 2).val < 1024 := (i 2).isLt; omega⟩ ⟨(i 2).val % 64, by omega⟩ : EReal)

/-- The blocks that the windows hold at a grid point. -/
theorem idx0 : ∀ t : Fin cfg0.N, win0_0.index t (0 : Fin 4) = t.val / 128 ∧ win0_0.index t (1 : Fin 4) = t.val / 16 % 8
    ∧ win0_0.index t (2 : Fin 4) = t.val % 16 ∧ win0_0.index t (3 : Fin 4) = 0 := (by decide +kernel : ∀ t : Fin grid0.N, _)
theorem idx1 : ∀ t : Fin cfg0.N, win0_1.index t (0 : Fin 4) = t.val / 128 ∧ win0_1.index t (1 : Fin 4) = t.val / 16 % 8
    ∧ win0_1.index t (2 : Fin 4) = 0 ∧ win0_1.index t (3 : Fin 4) = 0 := (by decide +kernel : ∀ t : Fin grid0.N, _)
theorem idx2 : ∀ t : Fin cfg0.N, win0_2.index t (0 : Fin 4) = t.val / 128 ∧ win0_2.index t (1 : Fin 4) = t.val / 16 % 8
    ∧ win0_2.index t (2 : Fin 4) = 0 ∧ win0_2.index t (3 : Fin 4) = 0 := (by decide +kernel : ∀ t : Fin grid0.N, _)
theorem idx3 : ∀ t : Fin cfg0.N, win0_3.index t (0 : Fin 4) = t.val / 128 ∧ win0_3.index t (1 : Fin 4) = t.val / 16 % 8
    ∧ win0_3.index t (2 : Fin 4) = 0 ∧ win0_3.index t (3 : Fin 4) = 0 := (by decide +kernel : ∀ t : Fin grid0.N, _)
theorem idx4 : ∀ t : Fin cfg0.N, win0_4.index t (0 : Fin 4) = t.val / 128 ∧ win0_4.index t (1 : Fin 4) = t.val / 16 % 8
    ∧ win0_4.index t (2 : Fin 4) = 0 ∧ win0_4.index t (3 : Fin 4) = 0 := (by decide +kernel : ∀ t : Fin grid0.N, _)
theorem idx5 : ∀ t : Fin cfg0.N, win0_5.index t (0 : Fin 3) = t.val / 128 ∧ win0_5.index t (1 : Fin 3) = t.val % 16
    ∧ win0_5.index t (2 : Fin 3) = t.val / 16 % 8 := (by decide +kernel : ∀ t : Fin grid0.N, _)

theorem points (t : Fin cfg0.N) : t.val < 256 := t.isLt

/-- The batch entry, the head and the query row of a grid point's block. -/
def batch (t : Fin cfg0.N) : Fin 2 := ⟨t.val / 128, by have := points t; omega⟩
def headOf (t : Fin cfg0.N) (h : Fin 2) : Fin 16 := ⟨t.val / 16 % 8 * 2 + h.val, by have := h.isLt; omega⟩
def rowOf (t : Fin cfg0.N) (r : Fin 1024) : Fin 16384 := ⟨t.val % 16 * 1024 + r.val, by have := r.isLt; omega⟩

/-- Where an element of an input's block lies in its array. -/
theorem emb0 (t : Fin cfg0.N) (h : Fin 2) (r : Fin 1024) (e : Fin 128) :
    ((cfg0.win 0).blk t).view.emb (ix4 0 h r e) = (ix4 (batch t) (headOf t h) (rowOf t r) e : S2x16x16384x128.Idx) := by
  obtain ⟨e0, e1, e2, e3⟩ := idx0 t
  funext a; apply Fin.ext
  match a with
  | ⟨0, _⟩ => show win0_0.index t (0 : Fin 4) * 1 + 1 * 0 = t.val / 128; omega
  | ⟨1, _⟩ => show win0_0.index t (1 : Fin 4) * 2 + 1 * h.val = t.val / 16 % 8 * 2 + h.val; omega
  | ⟨2, _⟩ => show win0_0.index t (2 : Fin 4) * 1024 + 1 * r.val = t.val % 16 * 1024 + r.val; omega
  | ⟨3, _⟩ => show win0_0.index t (3 : Fin 4) * 128 + 1 * e.val = e.val; omega

theorem emb1 (t : Fin cfg0.N) (h : Fin 2) (n : Fin 256) (e : Fin 128) :
    ((cfg0.win 1).blk t).view.emb (ix4 0 h e n) = (ix4 (batch t) (headOf t h) e n : S2x16x128x256.Idx) := by
  obtain ⟨e0, e1, e2, e3⟩ := idx1 t
  funext a; apply Fin.ext
  match a with
  | ⟨0, _⟩ => show win0_1.index t (0 : Fin 4) * 1 + 1 * 0 = t.val / 128; omega
  | ⟨1, _⟩ => show win0_1.index t (1 : Fin 4) * 2 + 1 * h.val = t.val / 16 % 8 * 2 + h.val; omega
  | ⟨2, _⟩ => show win0_1.index t (2 : Fin 4) * 128 + 1 * e.val = e.val; omega
  | ⟨3, _⟩ => show win0_1.index t (3 : Fin 4) * 256 + 1 * n.val = n.val; omega

theorem emb2 (t : Fin cfg0.N) (h : Fin 2) (n : Fin 256) (e : Fin 128) :
    ((cfg0.win 2).blk t).view.emb (ix4 0 h n e) = (ix4 (batch t) (headOf t h) n e : S2x16x256x128.Idx) := by
  obtain ⟨e0, e1, e2, e3⟩ := idx2 t
  funext a; apply Fin.ext
  match a with
  | ⟨0, _⟩ => show win0_2.index t (0 : Fin 4) * 1 + 1 * 0 = t.val / 128; omega
  | ⟨1, _⟩ => show win0_2.index t (1 : Fin 4) * 2 + 1 * h.val = t.val / 16 % 8 * 2 + h.val; omega
  | ⟨2, _⟩ => show win0_2.index t (2 : Fin 4) * 256 + 1 * n.val = n.val; omega
  | ⟨3, _⟩ => show win0_2.index t (3 : Fin 4) * 128 + 1 * e.val = e.val; omega

theorem emb3 (t : Fin cfg0.N) (h : Fin 2) (n : Fin 16384) (e : Fin 128) :
    ((cfg0.win 3).blk t).view.emb (ix4 0 h e n) = (ix4 (batch t) (headOf t h) e n : S2x16x128x16384.Idx) := by
  obtain ⟨e0, e1, e2, e3⟩ := idx3 t
  funext a; apply Fin.ext
  match a with
  | ⟨0, _⟩ => show win0_3.index t (0 : Fin 4) * 1 + 1 * 0 = t.val / 128; omega
  | ⟨1, _⟩ => show win0_3.index t (1 : Fin 4) * 2 + 1 * h.val = t.val / 16 % 8 * 2 + h.val; omega
  | ⟨2, _⟩ => show win0_3.index t (2 : Fin 4) * 128 + 1 * e.val = e.val; omega
  | ⟨3, _⟩ => show win0_3.index t (3 : Fin 4) * 16384 + 1 * n.val = n.val; omega

theorem emb4 (t : Fin cfg0.N) (h : Fin 2) (n : Fin 16384) (e : Fin 128) :
    ((cfg0.win 4).blk t).view.emb (ix4 0 h n e) = (ix4 (batch t) (headOf t h) n e : S2x16x16384x128.Idx) := by
  obtain ⟨e0, e1, e2, e3⟩ := idx4 t
  funext a; apply Fin.ext
  match a with
  | ⟨0, _⟩ => show win0_4.index t (0 : Fin 4) * 1 + 1 * 0 = t.val / 128; omega
  | ⟨1, _⟩ => show win0_4.index t (1 : Fin 4) * 2 + 1 * h.val = t.val / 16 % 8 * 2 + h.val; omega
  | ⟨2, _⟩ => show win0_4.index t (2 : Fin 4) * 16384 + 1 * n.val = n.val; omega
  | ⟨3, _⟩ => show win0_4.index t (3 : Fin 4) * 128 + 1 * e.val = e.val; omega

/-- So the block reads the array there. -/
theorem read0 (w : FVec Ideal S2x16x16384x128 .bf16) (t : Fin cfg0.N) (h : Fin 2) (r : Fin 1024) (e : Fin 128) :
    ((cfg0.win 0).blk t).view.read (Elt Ideal) w (ix4 0 h r e) = w (ix4 (batch t) (headOf t h) (rowOf t r) e) :=
  congrArg w (emb0 t h r e)

theorem read1 (w : FVec Ideal S2x16x128x256 .bf16) (t : Fin cfg0.N) (h : Fin 2) (n : Fin 256) (e : Fin 128) :
    ((cfg0.win 1).blk t).view.read (Elt Ideal) w (ix4 0 h e n) = w (ix4 (batch t) (headOf t h) e n) :=
  congrArg w (emb1 t h n e)

theorem read2 (w : FVec Ideal S2x16x256x128 .bf16) (t : Fin cfg0.N) (h : Fin 2) (n : Fin 256) (e : Fin 128) :
    ((cfg0.win 2).blk t).view.read (Elt Ideal) w (ix4 0 h n e) = w (ix4 (batch t) (headOf t h) n e) :=
  congrArg w (emb2 t h n e)

theorem read3 (w : FVec Ideal S2x16x128x16384 .bf16) (t : Fin cfg0.N) (h : Fin 2) (n : Fin 16384) (e : Fin 128) :
    ((cfg0.win 3).blk t).view.read (Elt Ideal) w (ix4 0 h e n) = w (ix4 (batch t) (headOf t h) e n) :=
  congrArg w (emb3 t h n e)

theorem read4 (w : FVec Ideal S2x16x16384x128 .bf16) (t : Fin cfg0.N) (h : Fin 2) (n : Fin 16384) (e : Fin 128) :
    ((cfg0.win 4).blk t).view.read (Elt Ideal) w (ix4 0 h n e) = w (ix4 (batch t) (headOf t h) n e) :=
  congrArg w (emb4 t h n e)

variable (m : (ℓ : Loc nD τ sig) → Buf (Elt Ideal) ℓ) (c : Dev nD)

theorem blk0 {X : Inputs} (A : Args m c X) (t : Fin cfg0.N) (h : Fin 2) (r : Fin 1024) (e : Fin 128) :
    (iblk m c 0 t : Vec Ideal S1x2x1024x128 .bf16) (ix4 0 h r e) = (X.Q (batch t) (headOf t h) (rowOf t r) e : EReal) := by
  have hv := v27_apply m c A (batch t) (headOf t h) (rowOf t r) e
  unfold iblk
  generalize V m c = W at hv ⊢
  exact (read0 (W main_v27) t h r e).trans hv

theorem blk1 {X : Inputs} (A : Args m c X) (t : Fin cfg0.N) (h : Fin 2) (n : Fin 256) (e : Fin 128) :
    (iblk m c 1 t : Vec Ideal S1x2x128x256 .bf16) (ix4 0 h e n) = (X.Kc (batch t) (headOf t h) n e : EReal) := by
  have hv := v44_apply m c A (batch t) (headOf t h) e n
  unfold iblk
  generalize V m c = W at hv ⊢
  exact (read1 (W main_v44) t h n e).trans hv

theorem blk2 {X : Inputs} (A : Args m c X) (t : Fin cfg0.N) (h : Fin 2) (n : Fin 256) (e : Fin 128) :
    (iblk m c 2 t : Vec Ideal S1x2x256x128 .bf16) (ix4 0 h n e) = (X.Uc (batch t) (headOf t h) n e : EReal) := by
  have hv := v68_apply m c A (batch t) (headOf t h) n e
  unfold iblk
  generalize V m c = W at hv ⊢
  exact (read2 (W main_v68) t h n e).trans hv

theorem blk3 {X : Inputs} (A : Args m c X) (t : Fin cfg0.N) (h : Fin 2) (n : Fin 16384) (e : Fin 128) :
    (iblk m c 3 t : Vec Ideal S1x2x128x16384 .bf16) (ix4 0 h e n) = (X.K (batch t) (headOf t h) n e : EReal) := by
  have hv := v73_apply m c A (batch t) (headOf t h) e n
  unfold iblk
  generalize V m c = W at hv ⊢
  exact (read3 (W main_v73) t h n e).trans hv

theorem blk4 {X : Inputs} (A : Args m c X) (t : Fin cfg0.N) (h : Fin 2) (n : Fin 16384) (e : Fin 128) :
    (iblk m c 4 t : Vec Ideal S1x2x16384x128 .bf16) (ix4 0 h n e) = (X.U (batch t) (headOf t h) n e : EReal) := by
  have hv := v97_apply m c A (batch t) (headOf t h) n e
  unfold iblk
  generalize V m c = W at hv ⊢
  exact (read4 (W main_v97) t h n e).trans hv

/-- Where an element of the output's block lies in the array. -/
theorem emb5 (t : Fin cfg0.N) (r : Fin 1024) (d : Fin 128) :
    ((cfg0.win 5).blk t).view.emb (ix3 0 r d)
      = (ix3 (batch t) (rowOf t r) ⟨t.val / 16 % 8 * 128 + d.val, by have := d.isLt; omega⟩ : S2x16384x1024.Idx) := by
  obtain ⟨e0, e1, e2⟩ := idx5 t
  funext a; apply Fin.ext
  match a with
  | ⟨0, _⟩ => show win0_5.index t (0 : Fin 3) * 1 + 1 * 0 = t.val / 128; omega
  | ⟨1, _⟩ => show win0_5.index t (1 : Fin 3) * 1024 + 1 * r.val = t.val % 16 * 1024 + r.val; omega
  | ⟨2, _⟩ => show win0_5.index t (2 : Fin 3) * 128 + 1 * d.val = t.val / 16 % 8 * 128 + d.val; omega

/-- The body's attention over a grid point's blocks. -/
theorem block_out {X : Inputs} (t : Fin cfg0.N) (x0 : Vec Ideal S1x2x1024x128 .bf16) (x1 : Vec Ideal S1x2x128x256 .bf16)
    (x2 : Vec Ideal S1x2x256x128 .bf16) (x3 : Vec Ideal S1x2x128x16384 .bf16) (x4 : Vec Ideal S1x2x16384x128 .bf16)
    (h0 : ∀ h r e, x0 (ix4 0 h r e) = (X.Q (batch t) (headOf t h) (rowOf t r) e : EReal))
    (h1 : ∀ h n e, x1 (ix4 0 h e n) = (X.Kc (batch t) (headOf t h) n e : EReal))
    (h2 : ∀ h n e, x2 (ix4 0 h n e) = (X.Uc (batch t) (headOf t h) n e : EReal))
    (h3 : ∀ h n e, x3 (ix4 0 h e n) = (X.K (batch t) (headOf t h) n e : EReal))
    (h4 : ∀ h n e, x4 (ix4 0 h n e) = (X.U (batch t) (headOf t h) n e : EReal)) (r : Fin 1024) (d : Fin 128) :
    k0_pay1 (head x0 x1 x2 x3 x4 0).2 (head x0 x1 x2 x3 x4 1).2 (iota .tc S1024x128 32 [1] iota_S1024x128_d1_w32)
        (k0_pay96 (head x0 x1 x2 x3 x4 0).2) (ix3 0 r d)
      = ((X.out (batch t) (rowOf t r) ⟨(t.val / 16 % 8 * 128 + d.val) / 64, by have := d.isLt; omega⟩
          ⟨(t.val / 16 % 8 * 128 + d.val) % 64, by omega⟩ : ℝ) : EReal) := by
  have hd := d.isLt
  let h : Fin 2 := ⟨d.val / 64, by omega⟩
  let one : Fin 128 := if d.val < 64 then 64 else 0
  have hone : one.val = if (headOf t h).val % 2 < 1 then 64 else 0 := by
    have e : (headOf t h).val % 2 = d.val / 64 := by show (t.val / 16 % 8 * 2 + d.val / 64) % 2 = d.val / 64; omega
    rw [e]
    show (if d.val < 64 then (64 : Fin 128) else 0).val = _
    by_cases h64 : d.val < 64
    · rw [if_pos h64, if_pos (by omega)]; rfl
    · rw [if_neg h64, if_neg (by omega)]; rfl
  have u1 := X.total_one (batch t) (headOf t h) (rowOf t r) one hone
  have u2 := X.total_val (batch t) (headOf t h) (rowOf t r) d
    (by show d.val / 64 = (t.val / 16 % 8 * 2 + d.val / 64) % 2; omega)
  have hp := (X.weights_pos (batch t) (headOf t h) (rowOf t r)).ne'
  have e1 : (⟨(t.val / 16 % 8 * 128 + d.val) / 64, by omega⟩ : Fin 16) = headOf t h :=
    Fin.ext (by show (t.val / 16 % 8 * 128 + d.val) / 64 = t.val / 16 % 8 * 2 + d.val / 64; omega)
  have e2 : (⟨(t.val / 16 % 8 * 128 + d.val) % 64, by omega⟩ : Fin 64) = ⟨d.val % 64, by omega⟩ :=
    Fin.ext (by show (t.val / 16 % 8 * 128 + d.val) % 64 = d.val % 64; omega)
  refine (block_apply x0 x1 x2 x3 x4 h r d rfl (h0 h r) (h1 h) (h2 h) (h3 h) (h4 h) one rfl (by rw [u1]; exact hp)).trans ?_
  rw [u1, u2, e1, e2, Inputs.out]

/-- A block that holds the attention of its place is the array's block there. -/
theorem cut_result {X : Inputs} (t : Fin cfg0.N) (w : Vec Ideal S1x1024x128 .bf16)
    (hw : ∀ (r : Fin 1024) (d : Fin 128), w (ix3 0 r d)
      = ((X.out (batch t) (rowOf t r) ⟨(t.val / 16 % 8 * 128 + d.val) / 64, by have := d.isLt; omega⟩
          ⟨(t.val / 16 % 8 * 128 + d.val) % 64, by omega⟩ : ℝ) : EReal)) :
    (cfg0.win 5).cut (grid0.coords t) w = ((cfg0.win 5).blk t).view.read (Elt Ideal) (result X) := by
  funext j
  obtain ⟨r, d, rfl⟩ : ∃ (r : Fin 1024) (d : Fin 128), j = (ix3 0 r d : S1x1024x128.Idx) := ⟨j 1, j 2, by
    funext a
    match a with
    | ⟨0, _⟩ => exact Subsingleton.elim (α := Fin 1) _ _
    | ⟨1, _⟩ => rfl
    | ⟨2, _⟩ => rfl⟩
  have h5 : result X (((cfg0.win 5).blk t).view.emb (ix3 0 r d)) = w (ix3 0 r d) :=
    (congrArg (result X) (emb5 t r d)).trans (hw r d).symm
  exact h5.symm

/-- What a grid point writes back is its block of the attention. -/
theorem flushed_result {X : Inputs} (A : Args m c X) (t : Fin cfg0.N) :
    (dats m 0 c).flushed 5 t = ((cfg0.win 5).blk t).view.read (Elt Ideal) (result X) := by
  have h := block_out (X := X) t (iblk m c 0 t) (iblk m c 1 t) (iblk m c 2 t) (iblk m c 3 t) (iblk m c 4 t)
    (blk0 m c A t) (blk1 m c A t) (blk2 m c A t) (blk3 m c A t) (blk4 m c A t)
  rw [flushed5_A, out_eq]
  generalize k0_pay1 (head (iblk m c 0 t) (iblk m c 1 t) (iblk m c 2 t) (iblk m c 3 t) (iblk m c 4 t) 0).2
      (head (iblk m c 0 t) (iblk m c 1 t) (iblk m c 2 t) (iblk m c 3 t) (iblk m c 4 t) 1).2
      (iota .tc S1024x128 32 [1] iota_S1024x128_d1_w32)
      (k0_pay96 (head (iblk m c 0 t) (iblk m c 1 t) (iblk m c 2 t) (iblk m c 3 t) (iblk m c 4 t) 0).2) = w at h ⊢
  exact cut_result t w h

/-- The blocks cover the array. -/
theorem covered (i : S2x16384x1024.Idx) :
    ∃ t : Fin cfg0.N, (cfg0.win 5).flush t = true ∧ i ∈ ((cfg0.win 5).blk t).view.set := by
  have h0 : (i 0).val < 2 := (i 0).isLt
  have h1 : (i 1).val < 16384 := (i 1).isLt
  have h2 : (i 2).val < 1024 := (i 2).isLt
  let t : Fin cfg0.N := ⟨(i 0).val * 128 + (i 2).val / 128 * 16 + (i 1).val / 1024, by
    show _ < 256
    omega⟩
  refine ⟨t, flush0_5 t, ?_⟩
  have h := ((cfg0.win 5).blk t).view.emb_mem_set (ix3 0 ⟨(i 1).val % 1024, by omega⟩ ⟨(i 2).val % 128, by omega⟩ : S1x1024x128.Idx)
  rw [emb5] at h
  refine (congrArg (· ∈ ((cfg0.win 5).blk t).view.set) (?_ : _ = i)).mp h
  funext a; apply Fin.ext
  have et : t.val = (i 0).val * 128 + (i 2).val / 128 * 16 + (i 1).val / 1024 := rfl
  match a with
  | ⟨0, _⟩ => show t.val / 128 = (i 0).val; omega
  | ⟨1, _⟩ => show t.val % 16 * 1024 + (i 1).val % 1024 = (i 1).val; omega
  | ⟨2, _⟩ => show t.val / 16 % 8 * 128 + (i 2).val % 128 = (i 2).val; omega

/-- The kernel's array after the run is the attention. -/
theorem final_result {X : Inputs} (A : Args m c X) : (dats m 0 c).arrAt 5 cfg0.N = result X :=
  (dats m 0 c).arrAt_eq_of_cover 5 (result X) (fun t _ => flushed_result m c A t) covered

end Cert.Attn

end
-- ==== Proof.Finite.lean ====
/-
  The precondition: every element of every argument is a real number.
-/
module

public import proofs.«01_k».proof.Proof.Host
public import proofs.«01_k».proof.Defs
public import proofs.«01_k».proof.Proof.Gen.Pre_finite

@[expose] public section

set_option maxRecDepth 16384

noncomputable section

namespace Cert.Attn

open Idealize.ShloMosaic Idealize.ShloMosaic.TcCoe Idealize.SL.Sem Cert.KernelIdeal Cert.KernelIdeal.Gen

theorem pos_inf : Ideal.ofBits .f32 0x7F800000#32 = (⊤ : EReal) := by
  simp [Ideal.ofBits, Ideal.ieee]

theorem real_of_lt {y : EReal} (h : BitVec.ofBool (decide (y < Ideal.ofBits .f32 0x7F800000#32))
    &&& BitVec.ofBool (decide (Ideal.ofBits .f32 0xFF800000#32 < y)) = 1#1) : y = ((EReal.toReal y : ℝ) : EReal) := by
  rw [pos_inf, show Ideal.ofBits .f32 0xFF800000#32 = (⊥ : EReal) from neg_inf] at h
  induction y using EReal.rec with
  | bot => simp at h
  | top => simp at h
  | coe r => rw [EReal.toReal_coe]

/-- An element strictly between the infinities is a real number. -/
theorem real_of_between {s : Shape} {h : (⟨0, ![]⟩ : Shape).BroadcastsInDim s (![] : Fin 0 → Fin s.rank)} (x : FVec Ideal s .f32)
    (hx : andi (cmpf .olt x (broadcastInDim s ![] h (constant ⟨0, ![]⟩ .f32 0x7F800000#32)))
      (cmpf .ogt x (broadcastInDim s ![] h (constant ⟨0, ![]⟩ .f32 0xFF800000#32))) = fun _ => 1#1) (i : s.Idx) :
    x i = ((EReal.toReal (x i) : ℝ) : EReal) := by
  have hi : BitVec.ofBool (decide ((x i : EReal) < Ideal.ofBits .f32 0x7F800000#32))
      &&& BitVec.ofBool (decide (Ideal.ofBits .f32 0xFF800000#32 < (x i : EReal))) = 1#1 := congrFun hx i
  exact real_of_lt hi

variable (m : (ℓ : Loc nD τ sig) → Buf (Elt Ideal) ℓ) (c : Dev nD)

/-- The real inputs that the argument arrays hold. -/
def inputs : Inputs where
  qn b n h d := EReal.toReal ((m (c, Proc.tc.devRef main_arg0) : FVec Ideal S2x16384x16x64 .f32) (ix4 b n h d))
  qr b n h d := EReal.toReal ((m (c, Proc.tc.devRef main_arg1) : FVec Ideal S2x16384x16x32 .f32) (ix4 b n h d))
  cos n a f := EReal.toReal ((m (c, Proc.tc.devRef main_arg2) : FVec Ideal S16384x2x8 .f32) (ix3 n a f))
  sin n a f := EReal.toReal ((m (c, Proc.tc.devRef main_arg3) : FVec Ideal S16384x2x8 .f32) (ix3 n a f))
  knc b n h d := EReal.toReal ((m (c, Proc.tc.devRef main_arg4) : FVec Ideal S2x256x16x64 .f32) (ix4 b n h d))
  krc b n d := EReal.toReal ((m (c, Proc.tc.devRef main_arg5) : FVec Ideal S2x256x32 .f32) (ix3 b n d))
  vc b n h d := EReal.toReal ((m (c, Proc.tc.devRef main_arg6) : FVec Ideal S2x256x16x64 .f32) (ix4 b n h d))
  kn b n h d := EReal.toReal ((m (c, Proc.tc.devRef main_arg7) : FVec Ideal S2x16384x16x64 .f32) (ix4 b n h d))
  kr b n d := EReal.toReal ((m (c, Proc.tc.devRef main_arg8) : FVec Ideal S2x16384x32 .f32) (ix3 b n d))
  v b n h d := EReal.toReal ((m (c, Proc.tc.devRef main_arg9) : FVec Ideal S2x16384x16x64 .f32) (ix4 b n h d))

theorem args_of_finite (h : Cert.Pre_KernelIdeal_finite (hPre_finite := Cert.Pre_finite.Gen.facts) m) : Args m c (inputs m c) := by
  obtain ⟨h0, h1, h2, h3, h4, h5, h6, h7, h8, h9⟩ := h c
  exact
    { qn := fun b n h d => real_of_between _ h0 _
      qr := fun b n h d => real_of_between _ h1 _
      cos := fun n a f => real_of_between _ h2 _
      sin := fun n a f => real_of_between _ h3 _
      knc := fun b n h d => real_of_between _ h4 _
      krc := fun b n d => real_of_between _ h5 _
      vc := fun b n h d => real_of_between _ h6 _
      kn := fun b n h d => real_of_between _ h7 _
      kr := fun b n d => real_of_between _ h8 _
      v := fun b n h d => real_of_between _ h9 _ }

end Cert.Attn

end
-- ==== Proof.Ref.lean ====
/-
  The reference's arrays, read at an index, over real inputs.
-/
module

public import proofs.«01_k».proof.Proof.Host
public import proofs.«01_k».proof.Proof.Gen.ReferenceIdeal.Read
public import Idealize.ShloMosaic.Lib.Pointwise

@[expose] public section

set_option maxRecDepth 16384

noncomputable section

namespace Cert.Attn.Ref

open Idealize.ShloMosaic Idealize.ShloMosaic.TcCoe Idealize.SL.Sem Cert.ReferenceIdeal Cert.ReferenceIdeal.Gen Cert.ReferenceIdeal.Read

/-- The rotation as the reference writes it, its two halves apart. -/
theorem ladder_rot (e : Fin 32) (r : Fin 32 → EReal) (C S : Fin 2 → Fin 8 → EReal)
    {r' : Fin 32 → ℝ} {C' S' : Fin 2 → Fin 8 → ℝ}
    (hr : ∀ d, r d = (r' d : EReal)) (hC : ∀ x f, C x f = (C' x f : EReal)) (hS : ∀ x f, S x f = (S' x f : EReal)) :
    (if h : e.val / 8 % 2 < 1 then
      r ⟨e.val / 16 * 16 + e.val % 8, by have := e.isLt; omega⟩ * C ⟨e.val / 16, by have := e.isLt; omega⟩ ⟨e.val % 8, by omega⟩
        - r ⟨e.val / 16 * 16 + 8 + e.val % 8, by have := e.isLt; omega⟩ * S ⟨e.val / 16, by have := e.isLt; omega⟩ ⟨e.val % 8, by omega⟩
    else
      r ⟨e.val / 16 * 16 + 8 + e.val % 8, by have := e.isLt; omega⟩ * C ⟨e.val / 16, by have := e.isLt; omega⟩ ⟨e.val % 8, by omega⟩
        + r ⟨e.val / 16 * 16 + e.val % 8, by have := e.isLt; omega⟩ * S ⟨e.val / 16, by have := e.isLt; omega⟩ ⟨e.val % 8, by omega⟩)
      = ((rot C' S' r' e : ℝ) : EReal) := by
  simp only [hr, hC, hS]
  by_cases h : e.val / 8 % 2 < 1
  · have e1 : (⟨e.val / 16 * 16 + e.val % 8, by have := e.isLt; omega⟩ : Fin 32) = e :=
      Fin.ext (by show e.val / 16 * 16 + e.val % 8 = e.val; omega)
    have e2 : (⟨e.val / 16 * 16 + 8 + e.val % 8, by have := e.isLt; omega⟩ : Fin 32) = swap e :=
      Fin.ext (by show e.val / 16 * 16 + 8 + e.val % 8 = e.val / 16 * 16 + (1 - e.val / 8 % 2) * 8 + e.val % 8; omega)
    rw [dif_pos h, e1, e2, rot, signed, if_pos h, entry, entry, mul_neg, ← sub_eq_add_neg, EReal.coe_sub, EReal.coe_mul, EReal.coe_mul]
  · have e1 : (⟨e.val / 16 * 16 + 8 + e.val % 8, by have := e.isLt; omega⟩ : Fin 32) = e :=
      Fin.ext (by show e.val / 16 * 16 + 8 + e.val % 8 = e.val; omega)
    have e2 : (⟨e.val / 16 * 16 + e.val % 8, by have := e.isLt; omega⟩ : Fin 32) = swap e :=
      Fin.ext (by show e.val / 16 * 16 + e.val % 8 = e.val / 16 * 16 + (1 - e.val / 8 % 2) * 8 + e.val % 8; omega)
    rw [dif_neg h, e1, e2, rot, signed, if_neg h, entry, entry, EReal.coe_add, EReal.coe_mul, EReal.coe_mul]

/-- Arrays joined along the positions. -/
theorem ladder_pos (k : Fin 16640) (x : Fin 256 → EReal) (y : Fin 16384 → EReal) {x' : Fin 256 → ℝ} {y' : Fin 16384 → ℝ}
    (hx : ∀ k, x k = (x' k : EReal)) (hy : ∀ k, y k = (y' k : EReal)) :
    (if h : k.val < 256 then x ⟨k.val, h⟩ else y ⟨k.val - 256, by have := k.isLt; omega⟩)
      = ((if h : k.val < 256 then x' ⟨k.val, h⟩ else y' ⟨k.val - 256, by have := k.isLt; omega⟩ : ℝ) : EReal) := by
  by_cases h : k.val < 256
  · rw [dif_pos h, dif_pos h, hx]
  · rw [dif_neg h, dif_neg h, hy]

theorem score_real (x k : Fin 64 → EReal) (r s : Fin 32 → EReal) {x' k' : Fin 64 → ℝ} {r' s' : Fin 32 → ℝ}
    (hx : ∀ d, x d = (x' d : EReal)) (hk : ∀ d, k d = (k' d : EReal)) (hr : ∀ d, r d = (r' d : EReal)) (hs : ∀ d, s d = (s' d : EReal)) :
    Ideal.div ((∑ d, x d * k d) + ∑ e, r e * s e) (Ideal.sqrt (Ideal.ofBits .f32 1119879168#32))
      = ((((∑ d, x' d * k' d) + ∑ e, r' e * s' e) / Real.sqrt 96 : ℝ) : EReal) := by
  have h96 : Real.sqrt 96 ≠ 0 := (Real.sqrt_pos.mpr (by norm_num)).ne'
  simp only [hx, hk, hr, hs, ← EReal.coe_mul]
  rw [coe_sum, coe_sum, ← EReal.coe_add, ofBits_96, Ideal.sqrt_coe, if_neg (by norm_num : ¬ (96 : ℝ) < 0), Ideal.div_coe h96,
    ← EReal.coe_mul, mul_one_div]

theorem max_real {K : Type} [Fintype K] [Nonempty K] (s : K → EReal) {s' : K → ℝ} (hs : ∀ k, s k = (s' k : EReal)) :
    ∃ μ : ℝ, max (Ideal.ofBits .f32 4286578688#32) (Finset.univ.fold max (Ideal.ofBits .f32 4286578688#32) s) = (μ : EReal) := by
  obtain ⟨μ, hμ⟩ := fold_max_real s'
  refine ⟨μ, ?_⟩
  rw [show s = fun k => (s' k : EReal) from funext hs, show Ideal.ofBits .f32 4286578688#32 = (⊥ : EReal) from neg_inf, hμ]
  exact max_eq_right bot_le

theorem weight_real {K : Type} [Fintype K] [Nonempty K] (w : K → EReal) {t : K → ℝ} {μ : ℝ}
    (hw : ∀ k, w k = ((Real.exp (t k - μ) : ℝ) : EReal)) (k : K) :
    Ideal.div (w k) (∑ j, w j) = ((Real.exp (t k) / ∑ j, Real.exp (t j) : ℝ) : EReal) := by
  have hs : ∑ j, Real.exp (t j - μ) = Real.exp (-μ) * ∑ j, Real.exp (t j) := by
    rw [Finset.mul_sum]
    exact Finset.sum_congr rfl fun j _ => by rw [← Real.exp_add]; congr 1; ring
  have hp : 0 < ∑ j, Real.exp (t j) := Finset.sum_pos (fun _ _ => Real.exp_pos _) Finset.univ_nonempty
  have hp' : ∑ j, Real.exp (t j - μ) ≠ 0 := by rw [hs]; exact (mul_pos (Real.exp_pos _) hp).ne'
  simp only [hw]
  rw [coe_sum, Ideal.div_coe hp', ← EReal.coe_mul, hs, show t k - μ = -μ + t k by ring, Real.exp_add]
  congr 1
  have := (Real.exp_pos (-μ)).ne'
  have := hp.ne'
  field_simp

theorem mean_real {K : Type} [Fintype K] (v w : K → EReal) {v' t : K → ℝ} {Z : ℝ} (hv : ∀ k, v k = (v' k : EReal))
    (hw : ∀ k, w k = ((Real.exp (t k) / Z : ℝ) : EReal)) :
    ∑ k, v k * w k = (((∑ k, Real.exp (t k) * v' k) / Z : ℝ) : EReal) := by
  simp only [hv, hw, ← EReal.coe_mul]
  rw [coe_sum, Finset.sum_div]
  refine congrArg _ (Finset.sum_congr rfl fun k _ => by ring)

/-- A row's maximum over the positions. -/
theorem reduce_apply (s : FVec Ideal S2x16x16384x16640 .f32) (z : FVec Ideal S_ .f32) (b : Fin 2) (h : Fin 16) (q : Fin 16384) :
    Host.reduce FloatOps.maximumf s z reducesTo_S2x16x16384x16640_S2x16x16384_d3 h_S_ (ix3 b h q)
      = (Finset.univ : Finset (Fin 16640)).fold max (z ix0) (fun k => s (ix4 b h q k)) := by
  have hr : S2x16x16384x16640.Reduces [3] S2x16x16384 := by decide
  rw [Host.reduce_eq_fold_single FloatOps.maximumf s z _ hr]
  have h0 : (Shape.Idx.first h_S_ : S_.Idx) = ix0 := funext fun a => a.elim0
  have hs : (s ∘ hr.lift (ix3 b h q)) = fun k : Fin 16640 => s (ix4 b h q k) := by
    funext k
    refine congrArg s (funext fun a => Fin.ext ?_)
    fin_cases a <;> simp [Shape.Reduces.lift_val, Shape.Reduces.liftVal] <;> rfl
  rw [h0, hs]
  rfl

variable (x0 : (⟨S2x16384x16x64, .f32⟩ : BufTy).Contents (Elt Ideal)) (x1 : (⟨S2x16384x16x32, .f32⟩ : BufTy).Contents (Elt Ideal)) (x2 : (⟨S16384x2x8, .f32⟩ : BufTy).Contents (Elt Ideal)) (x3 : (⟨S16384x2x8, .f32⟩ : BufTy).Contents (Elt Ideal)) (x4 : (⟨S2x256x16x64, .f32⟩ : BufTy).Contents (Elt Ideal)) (x5 : (⟨S2x256x32, .f32⟩ : BufTy).Contents (Elt Ideal)) (x6 : (⟨S2x256x16x64, .f32⟩ : BufTy).Contents (Elt Ideal)) (x7 : (⟨S2x16384x16x64, .f32⟩ : BufTy).Contents (Elt Ideal)) (x8 : (⟨S2x16384x32, .f32⟩ : BufTy).Contents (Elt Ideal)) (x9 : (⟨S2x16384x16x64, .f32⟩ : BufTy).Contents (Elt Ideal))

/-- The reference's arguments are the real inputs. -/
structure Takes (X : Inputs) : Prop where
  qn : ∀ b n h d, x0 (ix4 b n h d) = (X.qn b n h d : EReal)
  qr : ∀ b n h d, x1 (ix4 b n h d) = (X.qr b n h d : EReal)
  cos : ∀ n a f, x2 (ix3 n a f) = (X.cos n a f : EReal)
  sin : ∀ n a f, x3 (ix3 n a f) = (X.sin n a f : EReal)
  knc : ∀ b n h d, x4 (ix4 b n h d) = (X.knc b n h d : EReal)
  krc : ∀ b n d, x5 (ix3 b n d) = (X.krc b n d : EReal)
  vc : ∀ b n h d, x6 (ix4 b n h d) = (X.vc b n h d : EReal)
  kn : ∀ b n h d, x7 (ix4 b n h d) = (X.kn b n h d : EReal)
  kr : ∀ b n d, x8 (ix3 b n d) = (X.kr b n d : EReal)
  v : ∀ b n h d, x9 (ix4 b n h d) = (X.v b n h d : EReal)

variable {X : Inputs} (A : Takes x0 x1 x2 x3 x4 x5 x6 x7 x8 x9 X)

include A

theorem v24_apply (b : Fin 2) (n : Fin 16384) (h : Fin 16) (e : Fin 32) : val_main_v24 (F := Ideal) x1 x2 x3 (ix4 b n h e) = (X.qrot b n h e : EReal) := by
  generalize hR : (X.qrot b n h e : EReal) = R
  unfold val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
  pointwise
  subst hR
  exact ladder_rot e _ _ _ (A.qr b n h) (A.cos n) (A.sin n)

theorem v47_apply (b : Fin 2) (n : Fin 16384) (e : Fin 32) : val_main_v47 (F := Ideal) x2 x3 x8 (ix3 b n e) = (X.krot b n e : EReal) := by
  generalize hR : (X.krot b n e : EReal) = R
  unfold val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25
  pointwise
  subst hR
  exact ladder_rot e _ _ _ (A.kr b n) (A.cos n) (A.sin n)

theorem v48_apply (b : Fin 2) (k : Fin 16640) (h : Fin 16) (d : Fin 64) : val_main_v48 (F := Ideal) x4 x7 (ix4 b k h d) = (X.keyN b h k d : EReal) := by
  generalize hR : (X.keyN b h k d : EReal) = R
  unfold val_main_v48
  pointwise
  subst hR
  exact ladder_pos k _ _ (fun n => A.knc b n h d) (fun n => A.kn b n h d)

theorem v50_apply (b : Fin 2) (k : Fin 16640) (h : Fin 16) (d : Fin 64) : val_main_v50 (F := Ideal) x6 x9 (ix4 b k h d) = (X.val b h k d : EReal) := by
  generalize hR : (X.val b h k d : EReal) = R
  unfold val_main_v50
  pointwise
  subst hR
  exact ladder_pos k _ _ (fun n => A.vc b n h d) (fun n => A.v b n h d)

theorem v49_apply (b : Fin 2) (k : Fin 16640) (e : Fin 32) : val_main_v49 (F := Ideal) x2 x3 x5 x8 (ix3 b k e) = (X.keyR b k e : EReal) := by
  generalize hR : (X.keyR b k e : EReal) = R
  unfold val_main_v49
  have h := fun n => v47_apply x0 x1 x2 x3 x4 x5 x6 x7 x8 x9 A b n e
  generalize val_main_v47 x2 x3 x8 = K at h ⊢
  pointwise
  subst hR
  exact ladder_pos k _ _ (fun n => A.krc b n e) h

theorem v57_apply (b : Fin 2) (h : Fin 16) (q : Fin 16384) (k : Fin 16640) : val_main_v57 (F := Ideal) x0 x1 x2 x3 x4 x5 x7 x8 (ix4 b h q k) = ((X.dot b h q k / Real.sqrt 96 : ℝ) : EReal) := by
  generalize hR : ((X.dot b h q k / Real.sqrt 96 : ℝ) : EReal) = R
  unfold val_main_v57 val_main_v56 val_main_v55 val_main_v54 val_main_v53 val_main_v52 val_main_v51 val_main_cst
  have h1 := fun d => v48_apply x0 x1 x2 x3 x4 x5 x6 x7 x8 x9 A b k h d
  have h2 := fun e => v49_apply x0 x1 x2 x3 x4 x5 x6 x7 x8 x9 A b k e
  have h3 := fun e => v24_apply x0 x1 x2 x3 x4 x5 x6 x7 x8 x9 A b q h e
  generalize val_main_v48 x4 x7 = K1 at h1 ⊢
  generalize val_main_v49 x2 x3 x5 x8 = K2 at h2 ⊢
  generalize val_main_v24 x1 x2 x3 = K3 at h3 ⊢
  pointwise
  subst hR
  exact score_real _ _ _ _ (A.qn b q h) h1 h2 h3

theorem v60_apply (b : Fin 2) (h : Fin 16) (q : Fin 16384) :
    ∃ μ : ℝ, val_main_v60 (F := Ideal) x0 x1 x2 x3 x4 x5 x7 x8 (ix3 b h q) = (μ : EReal) := by
  have h1 : ∀ k, val_main_v57 (F := Ideal) x0 x1 x2 x3 x4 x5 x7 x8 (ix4 b h q k) = ((X.dot b h q k / Real.sqrt 96 : ℝ) : EReal) :=
    fun k => v57_apply x0 x1 x2 x3 x4 x5 x6 x7 x8 x9 A b h q k
  have h2 : val_main_v58 (F := Ideal) x0 x1 x2 x3 x4 x5 x7 x8 (ix3 b h q)
      = (Finset.univ : Finset (Fin 16640)).fold max (val_main_cst_0 (F := Ideal) ix0) (fun k => val_main_v57 (F := Ideal) x0 x1 x2 x3 x4 x5 x7 x8 (ix4 b h q k)) :=
    reduce_apply _ _ b h q
  obtain ⟨μ, hμ⟩ := max_real _ h1
  refine ⟨μ, ?_⟩
  rw [val_main_v60_apply, val_main_v59_apply, val_main_cst_1_apply, h2, val_main_cst_0_apply]
  exact hμ

theorem v64_apply (b : Fin 2) (h : Fin 16) (q : Fin 16384) :
    ∃ μ : ℝ, ∀ k, val_main_v64 (F := Ideal) x0 x1 x2 x3 x4 x5 x7 x8 (ix4 b h q k) = ((Real.exp (X.dot b h q k / Real.sqrt 96 - μ) : ℝ) : EReal) := by
  obtain ⟨μ, hμ⟩ := v60_apply x0 x1 x2 x3 x4 x5 x6 x7 x8 x9 A b h q
  refine ⟨μ, fun k => ?_⟩
  have h1 := v57_apply x0 x1 x2 x3 x4 x5 x6 x7 x8 x9 A b h q k
  rw [← Ideal.exp_coe, EReal.coe_sub, ← h1, ← hμ]
  unfold val_main_v64 val_main_v63 val_main_v62 val_main_v61
  generalize val_main_v57 x0 x1 x2 x3 x4 x5 x7 x8 = s
  generalize val_main_v60 x0 x1 x2 x3 x4 x5 x7 x8 = u
  pointwise

theorem v68_apply (b : Fin 2) (h : Fin 16) (q : Fin 16384) (k : Fin 16640) : val_main_v68 (F := Ideal) x0 x1 x2 x3 x4 x5 x7 x8 (ix4 b h q k)
    = ((Real.exp (X.dot b h q k / Real.sqrt 96) / ∑ j, Real.exp (X.dot b h q j / Real.sqrt 96) : ℝ) : EReal) := by
  obtain ⟨μ, hμ⟩ := v64_apply x0 x1 x2 x3 x4 x5 x6 x7 x8 x9 A b h q
  unfold val_main_v68 val_main_v67 val_main_v66 val_main_v65 val_main_cst_2
  generalize val_main_v64 x0 x1 x2 x3 x4 x5 x7 x8 = w at hμ ⊢
  rw [← weight_real _ hμ k]
  pointwise

/-- The reference's result is the attention. -/
theorem v72_apply (b : Fin 2) (q : Fin 16384) (l : Fin 1024) : val_main_v72 (F := Ideal) x0 x1 x2 x3 x4 x5 x6 x7 x8 x9 (ix3 b q l)
    = (X.out b q ⟨l.val / 64, by have := l.isLt; omega⟩ ⟨l.val % 64, by omega⟩ : EReal) := by
  have h1 := fun k => v50_apply x0 x1 x2 x3 x4 x5 x6 x7 x8 x9 A b k ⟨l.val / 64, by have := l.isLt; omega⟩ ⟨l.val % 64, by omega⟩
  have h2 := v68_apply x0 x1 x2 x3 x4 x5 x6 x7 x8 x9 A b ⟨l.val / 64, by have := l.isLt; omega⟩ q
  unfold val_main_v72 val_main_v71 val_main_v70 val_main_v69 Inputs.out
  generalize val_main_v50 x6 x9 = K1 at h1 ⊢
  generalize val_main_v68 x0 x1 x2 x3 x4 x5 x7 x8 = K2 at h2 ⊢
  rw [← mean_real _ _ h1 h2]
  pointwise

end Cert.Attn.Ref

end
-- ==== Proof.Algebraic.lean ====
/-
  Over finite inputs the kernel and the reference leave the same array: the attention.
-/
module

public import proofs.«01_k».proof.Defs
public import proofs.«01_k».proof.Proof.Array
public import proofs.«01_k».proof.Proof.Finite
public import proofs.«01_k».proof.Proof.Ref
public import proofs.«01_k».proof.Proof.Gen.ReferenceIdeal.Run

@[expose] public section

set_option maxRecDepth 16384

noncomputable section

namespace Cert.Attn

open Idealize.ShloMosaic Idealize.ShloMosaic.TcCoe Idealize.SL.Sem

namespace Ref

open Cert.ReferenceIdeal Cert.ReferenceIdeal.Gen Cert.ReferenceIdeal.Read

/-- The reference's array is the attention. -/
theorem final_eq (x0 : (⟨S2x16384x16x64, .f32⟩ : BufTy).Contents (Elt Ideal)) (x1 : (⟨S2x16384x16x32, .f32⟩ : BufTy).Contents (Elt Ideal)) (x2 : (⟨S16384x2x8, .f32⟩ : BufTy).Contents (Elt Ideal)) (x3 : (⟨S16384x2x8, .f32⟩ : BufTy).Contents (Elt Ideal)) (x4 : (⟨S2x256x16x64, .f32⟩ : BufTy).Contents (Elt Ideal)) (x5 : (⟨S2x256x32, .f32⟩ : BufTy).Contents (Elt Ideal)) (x6 : (⟨S2x256x16x64, .f32⟩ : BufTy).Contents (Elt Ideal)) (x7 : (⟨S2x16384x16x64, .f32⟩ : BufTy).Contents (Elt Ideal)) (x8 : (⟨S2x16384x32, .f32⟩ : BufTy).Contents (Elt Ideal)) (x9 : (⟨S2x16384x16x64, .f32⟩ : BufTy).Contents (Elt Ideal))
    {X : Inputs} (A : Takes x0 x1 x2 x3 x4 x5 x6 x7 x8 x9 X) :
    val_main_v72 (F := Ideal) x0 x1 x2 x3 x4 x5 x6 x7 x8 x9 = result X := by
  have h := v72_apply x0 x1 x2 x3 x4 x5 x6 x7 x8 x9 A
  generalize val_main_v72 (F := Ideal) x0 x1 x2 x3 x4 x5 x6 x7 x8 x9 = w at h ⊢
  funext i
  obtain ⟨b, q, l, rfl⟩ : ∃ (b : Fin 2) (q : Fin 16384) (l : Fin 1024), i = (ix3 b q l : S2x16384x1024.Idx) := ⟨i 0, i 1, i 2, by
    funext a
    match a with
    | ⟨0, _⟩ => rfl
    | ⟨1, _⟩ => rfl
    | ⟨2, _⟩ => rfl⟩
  exact h b q l

end Ref

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  refine ⟨fun c => result (inputs m c),
    (θ_run Cert.KernelIdeal.defs _ _).mono (fun r h c =>
      ⟨(h c).1.trans (final_result m c (args_of_finite m c hpre)), (h c).2⟩) (Cert.KernelIdeal.Value.run_blocks m g),
    (θ_run Cert.ReferenceIdeal.defs _ _).mono (fun r h c =>
      ⟨((h c).1.trans (Cert.ReferenceIdeal.Read.val_main_v72_eq m' c)).trans ?_, (h c).2⟩) (Cert.ReferenceIdeal.Value.run m' g')⟩
  obtain ⟨e0, e1, e2, e3, e4, e5, e6, e7, e8, e9⟩ := hag c
  have A := args_of_finite m c hpre
  exact Ref.final_eq _ _ _ _ _ _ _ _ _ _
    { qn := fun b n h d => (congrFun e0 _).trans (A.qn b n h d)
      qr := fun b n h d => (congrFun e1 _).trans (A.qr b n h d)
      cos := fun n a f => (congrFun e2 _).trans (A.cos n a f)
      sin := fun n a f => (congrFun e3 _).trans (A.sin n a f)
      knc := fun b n h d => (congrFun e4 _).trans (A.knc b n h d)
      krc := fun b n d => (congrFun e5 _).trans (A.krc b n d)
      vc := fun b n h d => (congrFun e6 _).trans (A.vc b n h d)
      kn := fun b n h d => (congrFun e7 _).trans (A.kn b n h d)
      kr := fun b n d => (congrFun e8 _).trans (A.kr b n d)
      v := fun b n h d => (congrFun e9 _).trans (A.v b n h d) }

/-- The reference's frame. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Attn

end
-- ==== Proof.lean ====
module

public import proofs.«01_k».proof.Proof.EAlg
public import proofs.«01_k».proof.Proof.BTab
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_counted
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Algebraic
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_finite.Gen.facts, Cert.Pre_counted.Gen.facts,
    fun m g _ => Cert.Kernel.Gen.frame m g, fun m g _ => Cert.KernelIdeal.Gen.frame m g,
    fun m g _ => Cert.KernelIdeal.Gen.frame m g, Cert.Attn.frame_reference,
    fun m g _ => Cert.Attn.frame_reference m g trivial,
    Cert.Experts.frame_kernel, Cert.Experts.frame_kernelIdeal, fun m g _ => Cert.Experts.frame_kernelIdeal m g trivial,
    Cert.Experts.frame_reference, fun m g _ => Cert.Experts.frame_reference m g trivial, trivial, Cert.Attn.algebraic, trivial, Cert.Experts.algebraic⟩

end Cert.Proof

end
